-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S12x256x1024 : Shape := ⟨3, ![12, 256, 1024]⟩
abbrev S_ : Shape := ⟨0, ![]⟩
abbrev S16 : Shape := ⟨1, ![16]⟩
abbrev S12 : Shape := ⟨1, ![12]⟩
abbrev S1x8192x1024 : Shape := ⟨3, ![1, 8192, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S8192x1024, .f32⟩
  | .local _ .vmem, ⟨1, _⟩ => ⟨S12x256x1024, .f32⟩
  | .local _ .vmem, ⟨2, _⟩ => ⟨S12x256x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 3 → Bool
  | ⟨0, _⟩ => true
  | ⟨1, _⟩ => true
  | ⟨2, _⟩ => false
  | _ => false

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  (ofTc nBuf bufTy 3 89 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 3 → Nat :=
  let c0_i32_14 : BitVec 32 := 0#32
  let c0_i32_15 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32 : BitVec 32 := 1024#32
  let v24 : BitVec 32 := Scalar.muli v2 c1024_i32
  ![0, 0, v24.toNat]
def k0_off2 (d0 : Dev nD) (c0_i32_16 : BitVec 32) : Fin 3 → Nat :=
  let c0_i32_65 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v27 : BitVec 32 := Scalar.muli v5 c4096_i32
  let v28 : BitVec 32 := Scalar.addi v27 c0_i32_16
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v29 : BitVec 32 := Scalar.subi c1_i32_17 v2
  let c1024_i32_18 : BitVec 32 := 1024#32
  let v30 : BitVec 32 := Scalar.muli v29 c1024_i32_18
  ![0, v28.toNat, v30.toNat]
def k0_dev3 (d0 : Dev nD) : Nat :=
  let c0_i32_70 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_69 : BitVec 32 := 8#32
  let v91 : BitVec 32 := Scalar.muli v9 c8_i32_69
  let v92 : BitVec 32 := Scalar.addi c0_i32_70 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_71 : BitVec 32 := 4#32
  let v93 : BitVec 32 := Scalar.muli v5 c4_i32_71
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v95 : BitVec 32 := Scalar.muli v8 c1_i32_72
  let v96 : BitVec 32 := Scalar.addi v94 v95
  v96.toNat
def k0_dev4 (d0 : Dev nD) : Nat :=
  let c0_i32_80 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_79 : BitVec 32 := 8#32
  let v105 : BitVec 32 := Scalar.muli v9 c8_i32_79
  let v106 : BitVec 32 := Scalar.addi c0_i32_80 v105
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_81 : BitVec 32 := 4#32
  let v107 : BitVec 32 := Scalar.muli v5 c4_i32_81
  let v108 : BitVec 32 := Scalar.addi v106 v107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v109 : BitVec 32 := Scalar.muli v8 c1_i32_82
  let v110 : BitVec 32 := Scalar.addi v108 v109
  v110.toNat
def k0_dev5 (d0 : Dev nD) : Nat :=
  let c0_i32_90 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_89 : BitVec 32 := 8#32
  let v119 : BitVec 32 := Scalar.muli v9 c8_i32_89
  let v120 : BitVec 32 := Scalar.addi c0_i32_90 v119
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_91 : BitVec 32 := 4#32
  let v121 : BitVec 32 := Scalar.muli v5 c4_i32_91
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v123 : BitVec 32 := Scalar.muli v8 c1_i32_92
  let v124 : BitVec 32 := Scalar.addi v122 v123
  v124.toNat
def k0_dev6 (d0 : Dev nD) : Nat :=
  let c0_i32_99 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_98 : BitVec 32 := 8#32
  let v133 : BitVec 32 := Scalar.muli v9 c8_i32_98
  let v134 : BitVec 32 := Scalar.addi c0_i32_99 v133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v135 : BitVec 32 := Scalar.muli v5 c4_i32_100
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v137 : BitVec 32 := Scalar.muli v8 c1_i32_101
  let v138 : BitVec 32 := Scalar.addi v136 v137
  v138.toNat
def k0_dev7 (d0 : Dev nD) : Nat :=
  let c0_i32_109 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_108 : BitVec 32 := 8#32
  let v147 : BitVec 32 := Scalar.muli v9 c8_i32_108
  let v148 : BitVec 32 := Scalar.addi c0_i32_109 v147
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v149 : BitVec 32 := Scalar.muli v5 c4_i32_110
  let v150 : BitVec 32 := Scalar.addi v148 v149
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v151 : BitVec 32 := Scalar.muli v8 c1_i32_111
  let v152 : BitVec 32 := Scalar.addi v150 v151
  v152.toNat
def k0_dev8 (d0 : Dev nD) : Nat :=
  let c0_i32_118 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_117 : BitVec 32 := 8#32
  let v161 : BitVec 32 := Scalar.muli v9 c8_i32_117
  let v162 : BitVec 32 := Scalar.addi c0_i32_118 v161
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v163 : BitVec 32 := Scalar.muli v5 c4_i32_119
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v165 : BitVec 32 := Scalar.muli v8 c1_i32_120
  let v166 : BitVec 32 := Scalar.addi v164 v165
  v166.toNat
def k0_dev9 (d0 : Dev nD) : Nat :=
  let c0_i32_127 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_126 : BitVec 32 := 8#32
  let v175 : BitVec 32 := Scalar.muli v9 c8_i32_126
  let v176 : BitVec 32 := Scalar.addi c0_i32_127 v175
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_128 : BitVec 32 := 4#32
  let v177 : BitVec 32 := Scalar.muli v5 c4_i32_128
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v179 : BitVec 32 := Scalar.muli v8 c1_i32_129
  let v180 : BitVec 32 := Scalar.addi v178 v179
  v180.toNat
def k0_dev10 (d0 : Dev nD) : Nat :=
  let c0_i32_136 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_135 : BitVec 32 := 8#32
  let v189 : BitVec 32 := Scalar.muli v9 c8_i32_135
  let v190 : BitVec 32 := Scalar.addi c0_i32_136 v189
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v191 : BitVec 32 := Scalar.muli v5 c4_i32_137
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v193 : BitVec 32 := Scalar.muli v8 c1_i32_138
  let v194 : BitVec 32 := Scalar.addi v192 v193
  v194.toNat
def k0_dev11 (d0 : Dev nD) : Nat :=
  let c0_i32_146 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_145 : BitVec 32 := 8#32
  let v203 : BitVec 32 := Scalar.muli v9 c8_i32_145
  let v204 : BitVec 32 := Scalar.addi c0_i32_146 v203
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v205 : BitVec 32 := Scalar.muli v5 c4_i32_147
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v207 : BitVec 32 := Scalar.muli v8 c1_i32_148
  let v208 : BitVec 32 := Scalar.addi v206 v207
  v208.toNat
def k0_dev12 (d0 : Dev nD) : Nat :=
  let c0_i32_155 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_154 : BitVec 32 := 8#32
  let v217 : BitVec 32 := Scalar.muli v9 c8_i32_154
  let v218 : BitVec 32 := Scalar.addi c0_i32_155 v217
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_156 : BitVec 32 := 4#32
  let v219 : BitVec 32 := Scalar.muli v5 c4_i32_156
  let v220 : BitVec 32 := Scalar.addi v218 v219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v221 : BitVec 32 := Scalar.muli v8 c1_i32_157
  let v222 : BitVec 32 := Scalar.addi v220 v221
  v222.toNat
def k0_dev13 (d0 : Dev nD) : Nat :=
  let c0_i32_164 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_163 : BitVec 32 := 8#32
  let v231 : BitVec 32 := Scalar.muli v9 c8_i32_163
  let v232 : BitVec 32 := Scalar.addi c0_i32_164 v231
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v233 : BitVec 32 := Scalar.muli v5 c4_i32_165
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v235 : BitVec 32 := Scalar.muli v8 c1_i32_166
  let v236 : BitVec 32 := Scalar.addi v234 v235
  v236.toNat
def k0_dev14 (d0 : Dev nD) : Nat :=
  let c0_i32_173 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_172 : BitVec 32 := 8#32
  let v245 : BitVec 32 := Scalar.muli v9 c8_i32_172
  let v246 : BitVec 32 := Scalar.addi c0_i32_173 v245
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v247 : BitVec 32 := Scalar.muli v5 c4_i32_174
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v249 : BitVec 32 := Scalar.muli v8 c1_i32_175
  let v250 : BitVec 32 := Scalar.addi v248 v249
  v250.toNat
def k0_dev15 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v273 : BitVec 32 := Scalar.muli v2 c8_i32_194
  let v274 : BitVec 32 := Scalar.addi c0_i32_195 v273
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_196 : BitVec 32 := 4#32
  let v275 : BitVec 32 := Scalar.muli v10 c4_i32_196
  let v276 : BitVec 32 := Scalar.addi v274 v275
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v277 : BitVec 32 := Scalar.muli v8 c1_i32_197
  let v278 : BitVec 32 := Scalar.addi v276 v277
  v278.toNat
def k0_off3 (d0 : Dev nD) (c0_i32_203 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_202 : BitVec 32 := 4096#32
  let v287 : BitVec 32 := Scalar.muli v5 c4096_i32_202
  let v288 : BitVec 32 := Scalar.addi v287 c0_i32_203
  let v289 : Index := Scalar.indexCast v288
  let c0 : Index := 0#32
  ![v289.toNat, 0]
def k0_off4 (d0 : Dev nD) (c0_i32_203 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32_202 : BitVec 32 := 4096#32
  let v287 : BitVec 32 := Scalar.muli v5 c4096_i32_202
  let v288 : BitVec 32 := Scalar.addi v287 c0_i32_203
  let c0_i32_209 : BitVec 32 := 0#32
  ![v288.toNat, 0]
def k0_dev16 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v314 : BitVec 32 := Scalar.muli v2 c8_i32_225
  let v315 : BitVec 32 := Scalar.addi c0_i32_226 v314
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_227 : BitVec 32 := 4#32
  let v316 : BitVec 32 := Scalar.muli v10 c4_i32_227
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v318 : BitVec 32 := Scalar.muli v8 c1_i32_228
  let v319 : BitVec 32 := Scalar.addi v317 v318
  v319.toNat
def k0_dev17 (d0 : Dev nD) : Nat :=
  let c0_i32_257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_256 : BitVec 32 := 8#32
  let v355 : BitVec 32 := Scalar.muli v2 c8_i32_256
  let v356 : BitVec 32 := Scalar.addi c0_i32_257 v355
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_258 : BitVec 32 := 4#32
  let v357 : BitVec 32 := Scalar.muli v10 c4_i32_258
  let v358 : BitVec 32 := Scalar.addi v356 v357
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v359 : BitVec 32 := Scalar.muli v8 c1_i32_259
  let v360 : BitVec 32 := Scalar.addi v358 v359
  v360.toNat
def k0_dev18 (d0 : Dev nD) : Nat :=
  let c0_i32_284 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_283 : BitVec 32 := 8#32
  let v390 : BitVec 32 := Scalar.muli v9 c8_i32_283
  let v391 : BitVec 32 := Scalar.addi c0_i32_284 v390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_285 : BitVec 32 := 4#32
  let v392 : BitVec 32 := Scalar.muli v5 c4_i32_285
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v394 : BitVec 32 := Scalar.muli v8 c1_i32_286
  let v395 : BitVec 32 := Scalar.addi v393 v394
  v395.toNat
def k0_dev19 (d0 : Dev nD) : Nat :=
  let c0_i32_293 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_292 : BitVec 32 := 8#32
  let v396 : BitVec 32 := Scalar.muli v9 c8_i32_292
  let v397 : BitVec 32 := Scalar.addi c0_i32_293 v396
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_294 : BitVec 32 := 4#32
  let v398 : BitVec 32 := Scalar.muli v5 c4_i32_294
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v400 : BitVec 32 := Scalar.muli v8 c1_i32_295
  let v401 : BitVec 32 := Scalar.addi v399 v400
  v401.toNat
def k0_off5 (d0 : Dev nD) (c0_i32_312 : BitVec 32) : Fin 2 → Nat :=
  let c1_i32_310 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v422 : BitVec 32 := Scalar.subi c1_i32_310 v5
  let c4096_i32_311 : BitVec 32 := 4096#32
  let v423 : BitVec 32 := Scalar.muli v422 c4096_i32_311
  let v424 : BitVec 32 := Scalar.addi v423 c0_i32_312
  let v425 : Index := Scalar.indexCast v424
  let c0_313 : Index := 0#32
  ![v425.toNat, 0]
def k0_off6 (d0 : Dev nD) (c0_i32_312 : BitVec 32) : Fin 2 → Nat :=
  let c1_i32_310 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v422 : BitVec 32 := Scalar.subi c1_i32_310 v5
  let c4096_i32_311 : BitVec 32 := 4096#32
  let v423 : BitVec 32 := Scalar.muli v422 c4096_i32_311
  let v424 : BitVec 32 := Scalar.addi v423 c0_i32_312
  let c0_i32_319 : BitVec 32 := 0#32
  ![v424.toNat, 0]
def k0_dev20 (d0 : Dev nD) : Nat :=
  let c0_i32_323 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_322 : BitVec 32 := 8#32
  let v438 : BitVec 32 := Scalar.muli v2 c8_i32_322
  let v439 : BitVec 32 := Scalar.addi c0_i32_323 v438
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_324 : BitVec 32 := 4#32
  let v440 : BitVec 32 := Scalar.muli v10 c4_i32_324
  let v441 : BitVec 32 := Scalar.addi v439 v440
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v442 : BitVec 32 := Scalar.muli v8 c1_i32_325
  let v443 : BitVec 32 := Scalar.addi v441 v442
  v443.toNat
def k0_dev21 (d0 : Dev nD) : Nat :=
  let c0_i32_341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_340 : BitVec 32 := 8#32
  let v456 : BitVec 32 := Scalar.muli v2 c8_i32_340
  let v457 : BitVec 32 := Scalar.addi c0_i32_341 v456
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_342 : BitVec 32 := 4#32
  let v458 : BitVec 32 := Scalar.muli v10 c4_i32_342
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v460 : BitVec 32 := Scalar.muli v8 c1_i32_343
  let v461 : BitVec 32 := Scalar.addi v459 v460
  v461.toNat
def k0_dev22 (d0 : Dev nD) : Nat :=
  let c0_i32_368 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_367 : BitVec 32 := 8#32
  let v491 : BitVec 32 := Scalar.muli v9 c8_i32_367
  let v492 : BitVec 32 := Scalar.addi c0_i32_368 v491
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_369 : BitVec 32 := 4#32
  let v493 : BitVec 32 := Scalar.muli v5 c4_i32_369
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_370 : BitVec 32 := 1#32
  let v495 : BitVec 32 := Scalar.muli v8 c1_i32_370
  let v496 : BitVec 32 := Scalar.addi v494 v495
  v496.toNat
def k0_dev23 (d0 : Dev nD) : Nat :=
  let c0_i32_377 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_376 : BitVec 32 := 8#32
  let v497 : BitVec 32 := Scalar.muli v9 c8_i32_376
  let v498 : BitVec 32 := Scalar.addi c0_i32_377 v497
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_378 : BitVec 32 := 4#32
  let v499 : BitVec 32 := Scalar.muli v5 c4_i32_378
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_379 : BitVec 32 := 1#32
  let v501 : BitVec 32 := Scalar.muli v8 c1_i32_379
  let v502 : BitVec 32 := Scalar.addi v500 v501
  v502.toNat
def k0_dev24 (d0 : Dev nD) : Nat :=
  let c0_i32_407 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_406 : BitVec 32 := 8#32
  let v539 : BitVec 32 := Scalar.muli v2 c8_i32_406
  let v540 : BitVec 32 := Scalar.addi c0_i32_407 v539
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_408 : BitVec 32 := 4#32
  let v541 : BitVec 32 := Scalar.muli v10 c4_i32_408
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v543 : BitVec 32 := Scalar.muli v8 c1_i32_409
  let v544 : BitVec 32 := Scalar.addi v542 v543
  v544.toNat
def k0_dev25 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v557 : BitVec 32 := Scalar.muli v2 c8_i32_424
  let v558 : BitVec 32 := Scalar.addi c0_i32_425 v557
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_426 : BitVec 32 := 4#32
  let v559 : BitVec 32 := Scalar.muli v10 c4_i32_426
  let v560 : BitVec 32 := Scalar.addi v558 v559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v561 : BitVec 32 := Scalar.muli v8 c1_i32_427
  let v562 : BitVec 32 := Scalar.addi v560 v561
  v562.toNat
def k0_dev26 (d0 : Dev nD) : Nat :=
  let c0_i32_452 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_451 : BitVec 32 := 8#32
  let v592 : BitVec 32 := Scalar.muli v9 c8_i32_451
  let v593 : BitVec 32 := Scalar.addi c0_i32_452 v592
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_453 : BitVec 32 := 4#32
  let v594 : BitVec 32 := Scalar.muli v5 c4_i32_453
  let v595 : BitVec 32 := Scalar.addi v593 v594
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_454 : BitVec 32 := 1#32
  let v596 : BitVec 32 := Scalar.muli v8 c1_i32_454
  let v597 : BitVec 32 := Scalar.addi v595 v596
  v597.toNat
def k0_dev27 (d0 : Dev nD) : Nat :=
  let c0_i32_461 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_460 : BitVec 32 := 8#32
  let v598 : BitVec 32 := Scalar.muli v9 c8_i32_460
  let v599 : BitVec 32 := Scalar.addi c0_i32_461 v598
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v600 : BitVec 32 := Scalar.muli v5 c4_i32_462
  let v601 : BitVec 32 := Scalar.addi v599 v600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_463 : BitVec 32 := 1#32
  let v602 : BitVec 32 := Scalar.muli v8 c1_i32_463
  let v603 : BitVec 32 := Scalar.addi v601 v602
  v603.toNat
def k0_dev28 (d0 : Dev nD) : Nat :=
  let c0_i32_491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_490 : BitVec 32 := 8#32
  let v640 : BitVec 32 := Scalar.muli v2 c8_i32_490
  let v641 : BitVec 32 := Scalar.addi c0_i32_491 v640
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_492 : BitVec 32 := 4#32
  let v642 : BitVec 32 := Scalar.muli v10 c4_i32_492
  let v643 : BitVec 32 := Scalar.addi v641 v642
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_493 : BitVec 32 := 1#32
  let v644 : BitVec 32 := Scalar.muli v8 c1_i32_493
  let v645 : BitVec 32 := Scalar.addi v643 v644
  v645.toNat
def k0_dev29 (d0 : Dev nD) : Nat :=
  let c0_i32_509 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_508 : BitVec 32 := 8#32
  let v658 : BitVec 32 := Scalar.muli v2 c8_i32_508
  let v659 : BitVec 32 := Scalar.addi c0_i32_509 v658
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_510 : BitVec 32 := 4#32
  let v660 : BitVec 32 := Scalar.muli v10 c4_i32_510
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_511 : BitVec 32 := 1#32
  let v662 : BitVec 32 := Scalar.muli v8 c1_i32_511
  let v663 : BitVec 32 := Scalar.addi v661 v662
  v663.toNat
def k0_dev30 (d0 : Dev nD) : Nat :=
  let c0_i32_536 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_535 : BitVec 32 := 8#32
  let v693 : BitVec 32 := Scalar.muli v9 c8_i32_535
  let v694 : BitVec 32 := Scalar.addi c0_i32_536 v693
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v695 : BitVec 32 := Scalar.muli v5 c4_i32_537
  let v696 : BitVec 32 := Scalar.addi v694 v695
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_538 : BitVec 32 := 1#32
  let v697 : BitVec 32 := Scalar.muli v8 c1_i32_538
  let v698 : BitVec 32 := Scalar.addi v696 v697
  v698.toNat
def k0_dev31 (d0 : Dev nD) : Nat :=
  let c0_i32_545 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_544 : BitVec 32 := 8#32
  let v699 : BitVec 32 := Scalar.muli v9 c8_i32_544
  let v700 : BitVec 32 := Scalar.addi c0_i32_545 v699
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_546 : BitVec 32 := 4#32
  let v701 : BitVec 32 := Scalar.muli v5 c4_i32_546
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_547 : BitVec 32 := 1#32
  let v703 : BitVec 32 := Scalar.muli v8 c1_i32_547
  let v704 : BitVec 32 := Scalar.addi v702 v703
  v704.toNat
def k0_dev32 (d0 : Dev nD) : Nat :=
  let c0_i32_575 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_574 : BitVec 32 := 8#32
  let v741 : BitVec 32 := Scalar.muli v2 c8_i32_574
  let v742 : BitVec 32 := Scalar.addi c0_i32_575 v741
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_576 : BitVec 32 := 4#32
  let v743 : BitVec 32 := Scalar.muli v10 c4_i32_576
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_577 : BitVec 32 := 1#32
  let v745 : BitVec 32 := Scalar.muli v8 c1_i32_577
  let v746 : BitVec 32 := Scalar.addi v744 v745
  v746.toNat
def k0_dev33 (d0 : Dev nD) : Nat :=
  let c0_i32_593 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_592 : BitVec 32 := 8#32
  let v759 : BitVec 32 := Scalar.muli v2 c8_i32_592
  let v760 : BitVec 32 := Scalar.addi c0_i32_593 v759
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_594 : BitVec 32 := 4#32
  let v761 : BitVec 32 := Scalar.muli v10 c4_i32_594
  let v762 : BitVec 32 := Scalar.addi v760 v761
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_595 : BitVec 32 := 1#32
  let v763 : BitVec 32 := Scalar.muli v8 c1_i32_595
  let v764 : BitVec 32 := Scalar.addi v762 v763
  v764.toNat
def k0_dev34 (d0 : Dev nD) : Nat :=
  let c0_i32_656 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_655 : BitVec 32 := 8#32
  let v834 : BitVec 32 := Scalar.muli v2 c8_i32_655
  let v835 : BitVec 32 := Scalar.addi c0_i32_656 v834
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_657 : BitVec 32 := 4#32
  let v836 : BitVec 32 := Scalar.muli v10 c4_i32_657
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_658 : BitVec 32 := 1#32
  let v838 : BitVec 32 := Scalar.muli v8 c1_i32_658
  let v839 : BitVec 32 := Scalar.addi v837 v838
  v839.toNat
def k0_dev35 (d0 : Dev nD) : Nat :=
  let c0_i32_719 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_718 : BitVec 32 := 8#32
  let v909 : BitVec 32 := Scalar.muli v2 c8_i32_718
  let v910 : BitVec 32 := Scalar.addi c0_i32_719 v909
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_720 : BitVec 32 := 4#32
  let v911 : BitVec 32 := Scalar.muli v10 c4_i32_720
  let v912 : BitVec 32 := Scalar.addi v910 v911
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_721 : BitVec 32 := 1#32
  let v913 : BitVec 32 := Scalar.muli v8 c1_i32_721
  let v914 : BitVec 32 := Scalar.addi v912 v913
  v914.toNat
def k0_dev36 (d0 : Dev nD) : Nat :=
  let c0_i32_782 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_781 : BitVec 32 := 8#32
  let v984 : BitVec 32 := Scalar.muli v2 c8_i32_781
  let v985 : BitVec 32 := Scalar.addi c0_i32_782 v984
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_783 : BitVec 32 := 4#32
  let v986 : BitVec 32 := Scalar.muli v10 c4_i32_783
  let v987 : BitVec 32 := Scalar.addi v985 v986
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_784 : BitVec 32 := 1#32
  let v988 : BitVec 32 := Scalar.muli v8 c1_i32_784
  let v989 : BitVec 32 := Scalar.addi v987 v988
  v989.toNat
def k0_dev37 (d0 : Dev nD) : Nat :=
  let c0_i32_845 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_844 : BitVec 32 := 8#32
  let v1059 : BitVec 32 := Scalar.muli v2 c8_i32_844
  let v1060 : BitVec 32 := Scalar.addi c0_i32_845 v1059
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_846 : BitVec 32 := 4#32
  let v1061 : BitVec 32 := Scalar.muli v10 c4_i32_846
  let v1062 : BitVec 32 := Scalar.addi v1060 v1061
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_847 : BitVec 32 := 1#32
  let v1063 : BitVec 32 := Scalar.muli v8 c1_i32_847
  let v1064 : BitVec 32 := Scalar.addi v1062 v1063
  v1064.toNat
def k0_dev38 (d0 : Dev nD) : Nat :=
  let c0_i32_908 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_907 : BitVec 32 := 8#32
  let v1134 : BitVec 32 := Scalar.muli v2 c8_i32_907
  let v1135 : BitVec 32 := Scalar.addi c0_i32_908 v1134
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_909 : BitVec 32 := 4#32
  let v1136 : BitVec 32 := Scalar.muli v10 c4_i32_909
  let v1137 : BitVec 32 := Scalar.addi v1135 v1136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_910 : BitVec 32 := 1#32
  let v1138 : BitVec 32 := Scalar.muli v8 c1_i32_910
  let v1139 : BitVec 32 := Scalar.addi v1137 v1138
  v1139.toNat
def k0_dev39 (d0 : Dev nD) : Nat :=
  let c0_i32_973 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_972 : BitVec 32 := 8#32
  let v1209 : BitVec 32 := Scalar.muli v2 c8_i32_972
  let v1210 : BitVec 32 := Scalar.addi c0_i32_973 v1209
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_974 : BitVec 32 := 4#32
  let v1211 : BitVec 32 := Scalar.muli v10 c4_i32_974
  let v1212 : BitVec 32 := Scalar.addi v1210 v1211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_975 : BitVec 32 := 1#32
  let v1213 : BitVec 32 := Scalar.muli v8 c1_i32_975
  let v1214 : BitVec 32 := Scalar.addi v1212 v1213
  v1214.toNat
def k0_dev40 (d0 : Dev nD) : Nat :=
  let c0_i32_1039 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1038 : BitVec 32 := 8#32
  let v1284 : BitVec 32 := Scalar.muli v2 c8_i32_1038
  let v1285 : BitVec 32 := Scalar.addi c0_i32_1039 v1284
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1040 : BitVec 32 := 4#32
  let v1286 : BitVec 32 := Scalar.muli v10 c4_i32_1040
  let v1287 : BitVec 32 := Scalar.addi v1285 v1286
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1041 : BitVec 32 := 1#32
  let v1288 : BitVec 32 := Scalar.muli v8 c1_i32_1041
  let v1289 : BitVec 32 := Scalar.addi v1287 v1288
  v1289.toNat
def k0_dev41 (d0 : Dev nD) : Nat :=
  let c0_i32_1105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1104 : BitVec 32 := 8#32
  let v1359 : BitVec 32 := Scalar.muli v2 c8_i32_1104
  let v1360 : BitVec 32 := Scalar.addi c0_i32_1105 v1359
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1106 : BitVec 32 := 4#32
  let v1361 : BitVec 32 := Scalar.muli v10 c4_i32_1106
  let v1362 : BitVec 32 := Scalar.addi v1360 v1361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1107 : BitVec 32 := 1#32
  let v1363 : BitVec 32 := Scalar.muli v8 c1_i32_1107
  let v1364 : BitVec 32 := Scalar.addi v1362 v1363
  v1364.toNat
def k0_dev42 (d0 : Dev nD) : Nat :=
  let c0_i32_1171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1170 : BitVec 32 := 8#32
  let v1434 : BitVec 32 := Scalar.muli v2 c8_i32_1170
  let v1435 : BitVec 32 := Scalar.addi c0_i32_1171 v1434
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1172 : BitVec 32 := 4#32
  let v1436 : BitVec 32 := Scalar.muli v10 c4_i32_1172
  let v1437 : BitVec 32 := Scalar.addi v1435 v1436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1173 : BitVec 32 := 1#32
  let v1438 : BitVec 32 := Scalar.muli v8 c1_i32_1173
  let v1439 : BitVec 32 := Scalar.addi v1437 v1438
  v1439.toNat
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ideal.Body.lean ====
/- The kernel's body as a program with a loop.

   The printed body is the kernel's unrolled text, one operation after another in many parts. Here the same
   text is written once per kind of step, with the chunk number as a parameter: a step receives a chunk from
   the partner and forwards it to the buddy (`stepX`), a step receives the buddy's chunk (`stepY`), and the
   whole body runs the first kind sixteen times with the second two steps behind. `body_eq` says the printed
   body is this program. -/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit

@[expose] public section

noncomputable section

namespace Cert.KernelIdeal.Own

open Idealize.ShloMosaic Idealize.SL.Sem Cert.KernelIdeal.Gen

variable {F : FTy → Type} [FloatOps F]

/-- The programs of one core of the kernel. -/
abbrev KProg (F : FTy → Type) : Type 1 := Prog (TpuEff nD τ sig (Elt F) Λ₀ .tc) PUnit

/-! ## Devices, semaphores and slices -/

/-- The device a core exchanges its column half with: the other coordinate along `x`. -/
def px (d : Dev nD) : Dev nD := ⟨k0_dev1 d, k0_dev1_lt d⟩
/-- The device a core forwards its row half to: the other coordinate along `y`. -/
def py (d : Dev nD) : Dev nD := ⟨k0_dev2 d, k0_dev2_lt d⟩

abbrev xM : Memref sig .tc .hbm S1x8192x2048 .f32 := Memref.whole main_arg0
abbrev outM : Memref sig .tc .hbm S8192x1024 .f32 := Memref.whole main_v1
abbrev accM : Memref sig .tc .vmem S8192x1024 .f32 := Memref.whole cc0_scratch0
abbrev xcM : Memref sig .tc .vmem S12x256x1024 .f32 := Memref.whole cc0_scratch1
abbrev ycM : Memref sig .tc .vmem S12x256x1024 .f32 := Memref.whole cc0_scratch2

/-- Chunk `k` uses slot `k % 12` of the twelve. -/
abbrev slot (k : Fin 16) : Fin 12 := ⟨k.val % 12, Nat.mod_lt _ (by decide)⟩

theorem inb16 : ∀ k : Fin 16, ∀ a, (![k.val] : Fin 1 → Nat) a + S1.size a ≤ S16.size a := by decide
theorem inb12 : ∀ s : Fin 12, ∀ a, (![s.val] : Fin 1 → Nat) a + S1.size a ≤ S12.size a := by decide
theorem inbSlot : ∀ s : Fin 12, ∀ a, (![s.val, 0, 0] : Fin 3 → Nat) a + S1x256x1024.size a ≤ S12x256x1024.size a := by decide

/-- Element `k` of a row of sixteen DMA semaphores. -/
abbrev sem16 (a : DmaSems sig S16) (k : Fin 16) : DmaSem sig :=
  ((a.slice (Rect.unit (s := S16) ![k.val] S1.size (inb16 k))).squeeze S_ squeezes_S1_S_).sem
/-- Element `s` of a row of twelve DMA semaphores. -/
abbrev sem12 (a : DmaSems sig S12) (s : Fin 12) : DmaSem sig :=
  ((a.slice (Rect.unit (s := S12) ![s.val] S1.size (inb12 s))).squeeze S_ squeezes_S1_S_).sem

abbrev xsendS (k : Fin 16) : DmaSem sig := sem16 cc0_scratch4 k
abbrev xrecvS (s : Fin 12) : DmaSem sig := sem12 cc0_scratch5 s
abbrev ysendS (k : Fin 16) : DmaSem sig := sem16 cc0_scratch6 k
abbrev yrecvS (s : Fin 12) : DmaSem sig := sem12 cc0_scratch7 s
abbrev xoutS (k : Fin 16) : DmaSem sig := sem16 cc0_scratch8 k
abbrev youtS (k : Fin 16) : DmaSem sig := sem16 cc0_scratch9 k
abbrev localS : DmaSem sig := cc0_scratch3.sem
abbrev xcrS : Sem sig := cc0_scratch10.sem
abbrev ycrS : Sem sig := cc0_scratch11.sem
abbrev barS : Sem sig := (SemArray.scalar (sig.barrier 0 rfl) : Sems sig S_).sem

/-- The rows of slot `s` in a slotted buffer. -/
abbrev slotR (s : Fin 12) : Rect S12x256x1024 := Rect.unit (s := S12x256x1024) ![s.val, 0, 0] S1x256x1024.size (inbSlot s)
/-- Slot `s` of the buffer that receives from the partner. -/
abbrev xslot (s : Fin 12) : Memref sig .tc .vmem S256x1024 .f32 :=
  (xcM.slice (slotR s) (fun _ => rfl)).squeeze S256x1024 squeezes_S1x256x1024_S256x1024
/-- Slot `s` of the buffer that receives from the buddy. -/
abbrev yslot (s : Fin 12) : Memref sig .tc .vmem S256x1024 .f32 :=
  (ycM.slice (slotR s) (fun _ => rfl)).squeeze S256x1024 squeezes_S1x256x1024_S256x1024

/-- A chunk number as the word the kernel computes row offsets from. -/
abbrev rw32 (k : Fin 16) : BitVec 32 := BitVec.ofNat 32 (256 * k.val)

/-- The part of the argument a core sends its partner as chunk `k`. -/
abbrev xsrc (d : Dev nD) (k : Fin 16) : Memref sig .tc .hbm S256x1024 .f32 :=
  (xM.slice (Rect.unit (s := S1x8192x2048) (k0_off2 d (rw32 k)) S1x256x1024.size (k0_off2_inb d k)) (fun _ => rfl)).squeeze S256x1024 squeezes_S1x256x1024_S256x1024
/-- The column half of the argument a core keeps. -/
abbrev xown (d : Dev nD) : Memref sig .tc .hbm S8192x1024 .f32 :=
  (xM.slice (Rect.unit (s := S1x8192x2048) (k0_off1 d) S1x8192x1024.size (k0_off1_inb d)) (fun _ => rfl)).squeeze S8192x1024 squeezes_S1x8192x1024_S8192x1024

/-- Chunk `k` of the row half a core receives from its partner, as loads and stores address it, -/
abbrev rowX (d : Dev nD) (k : Fin 16) : Rect S8192x1024 := Rect.unit (s := S8192x1024) (k0_off3 d (rw32 k)) S256x1024.size (k0_off3_inb d k)
/-- and as transfers address it. -/
abbrev rowX' (d : Dev nD) (k : Fin 16) : Rect S8192x1024 := Rect.unit (s := S8192x1024) (k0_off4 d (rw32 k)) S256x1024.size (k0_off4_inb d k)
/-- Chunk `k` of the row half a core receives from its buddy, as loads and stores address it, -/
abbrev rowY (d : Dev nD) (k : Fin 16) : Rect S8192x1024 := Rect.unit (s := S8192x1024) (k0_off5 d (rw32 k)) S256x1024.size (k0_off5_inb d k)
/-- and as transfers address it. -/
abbrev rowY' (d : Dev nD) (k : Fin 16) : Rect S8192x1024 := Rect.unit (s := S8192x1024) (k0_off6 d (rw32 k)) S256x1024.size (k0_off6_inb d k)

/-- The value a step stores: the accumulator's chunk plus the received one. -/
def addPay (a : Vec F S256x1024 .f32) (b : Vec F S1x256x1024 .f32) : FVec F S256x1024 .f32 :=
  shapeCast S256x1024 (addf a (shapeCast S256x1024 b shapeCasts_S1x256x1024_S256x1024)) shapeCasts_S256x1024_S256x1024

/-! ## The operations -/

/-- Start sending chunk `k` of the argument to the partner. -/
def sendX (d : Dev nD) (k : Fin 16) (K : KProg F) : KProg F :=
  .op (.enqueueDma (xsrc d k) (.remote (Dev.tc (px d)) (xslot (slot k)) (.dma (xsendS k))) (.dma (xrecvS (slot k)))
    ((View.wordExact_bits rfl).reshape _ _) ((View.wordExact_bits rfl).reshape _ _) ⟨⟨rfl, Or.inl rfl⟩, trivial⟩) fun _ => K
/-- Start forwarding the received chunk `k` to the buddy. -/
def sendY (d : Dev nD) (k : Fin 16) (K : KProg F) : KProg F :=
  .op (.enqueueDma (xslot (slot k)) (.remote (Dev.tc (py d)) (yslot (slot k)) (.dma (ysendS k))) (.dma (yrecvS (slot k)))
    ((View.wordExact_bits rfl).reshape _ _) ((View.wordExact_bits rfl).reshape _ _) ⟨⟨rfl, Or.inl rfl⟩, trivial⟩) fun _ => K
/-- Wait for the partner's chunk `k`. -/
def recvX (d : Dev nD) (k : Fin 16) (K : KProg F) : KProg F :=
  .op (.waitDma2 (xrecvS (slot k)) (xsrc d k) (xslot (slot k)) ((View.wordExact_bits rfl).reshape _ _) ((View.wordExact_bits rfl).reshape _ _)) fun _ => K
/-- Wait for the buddy's chunk `k`. -/
def recvY (k : Fin 16) (K : KProg F) : KProg F :=
  .op (.waitDma2 (yrecvS (slot k)) (xslot (slot k)) (yslot (slot k)) ((View.wordExact_bits rfl).reshape _ _) ((View.wordExact_bits rfl).reshape _ _)) fun _ => K
/-- Wait until the forwarded chunk `k` has been read. -/
def sentY (k : Fin 16) (K : KProg F) : KProg F :=
  .op (.waitDma2 (ysendS k) (yslot (slot k)) (xslot (slot k)) ((View.wordExact_bits rfl).reshape _ _) ((View.wordExact_bits rfl).reshape _ _)) fun _ => K
/-- Wait until the sent chunk `k` of the argument has been read. -/
def sentX (d : Dev nD) (k : Fin 16) (K : KProg F) : KProg F :=
  .op (.waitDma2 (xsendS k) (xslot (slot k)) (xsrc d k) ((View.wordExact_bits rfl).reshape _ _) ((View.wordExact_bits rfl).reshape _ _)) fun _ => K
/-- Add the partner's chunk `k` to the accumulator. -/
def addX (d : Dev nD) (k : Fin 16) (K : KProg F) : KProg F :=
  .op (.load accM (rowX d k).toLoadRect (View.loadsAt_vmem h_S256x1024)) fun a : Vec F S256x1024 .f32 =>
  .op (.load xcM (slotR (slot k)).toLoadRect (View.loadsAt_vmem h_S1x256x1024)) fun b : Vec F S1x256x1024 .f32 =>
  .op (.load accM (rowX d k).toLoadRect (View.loadsAt_vmem h_S256x1024)) fun _ : Vec F S256x1024 .f32 =>
  .op (.store accM (rowX d k) (addPay a b) Finset.univ (View.stores_vmem_bits_univ h_S256x1024 rfl) (.inl rfl)) fun _ => K
/-- Add the buddy's chunk `k` to the accumulator. -/
def addY (d : Dev nD) (k : Fin 16) (K : KProg F) : KProg F :=
  .op (.load accM (rowY d k).toLoadRect (View.loadsAt_vmem h_S256x1024)) fun a : Vec F S256x1024 .f32 =>
  .op (.load ycM (slotR (slot k)).toLoadRect (View.loadsAt_vmem h_S1x256x1024)) fun b : Vec F S1x256x1024 .f32 =>
  .op (.load accM (rowY d k).toLoadRect (View.loadsAt_vmem h_S256x1024)) fun _ : Vec F S256x1024 .f32 =>
  .op (.store accM (rowY d k) (addPay a b) Finset.univ (View.stores_vmem_bits_univ h_S256x1024 rfl) (.inl rfl)) fun _ => K
/-- Start copying chunk `k` of the partner's row half out. -/
def flushX (d : Dev nD) (k : Fin 16) (K : KProg F) : KProg F :=
  .op (.enqueueDma (accM.slice (rowX' d k) (fun _ => rfl)) (.here (outM.slice (rowX' d k) (fun _ => rfl))) (.dma (xoutS k))
    (View.wordExact_bits rfl) (View.wordExact_bits rfl) ⟨Or.inl rfl, trivial⟩) fun _ => K
/-- Start copying chunk `k` of the buddy's row half out. -/
def flushY (d : Dev nD) (k : Fin 16) (K : KProg F) : KProg F :=
  .op (.enqueueDma (accM.slice (rowY' d k) (fun _ => rfl)) (.here (outM.slice (rowY' d k) (fun _ => rfl))) (.dma (youtS k))
    (View.wordExact_bits rfl) (View.wordExact_bits rfl) ⟨Or.inl rfl, trivial⟩) fun _ => K
/-- Wait for the copy out of chunk `k` of the partner's row half. -/
def outX (d : Dev nD) (k : Fin 16) (K : KProg F) : KProg F :=
  .op (.waitDma2 (xoutS k) (accM.slice (rowX' d k) (fun _ => rfl)) (outM.slice (rowX' d k) (fun _ => rfl)) (View.wordExact_bits rfl) (View.wordExact_bits rfl)) fun _ => K
/-- Wait for the copy out of chunk `k` of the buddy's row half. -/
def outY (d : Dev nD) (k : Fin 16) (K : KProg F) : KProg F :=
  .op (.waitDma2 (youtS k) (accM.slice (rowY' d k) (fun _ => rfl)) (outM.slice (rowY' d k) (fun _ => rfl)) (View.wordExact_bits rfl) (View.wordExact_bits rfl)) fun _ => K
/-- Signal one unit to a regular semaphore of device `e`. -/
def give (e : Dev nD) (s : Sem sig) (K : KProg F) : KProg F := .op (.semSignal (Dev.tc e) s (1#32).toInt) fun _ => K
/-- Wait for `n` units on a regular semaphore. -/
def take (s : Sem sig) (n : BitVec 32) (K : KProg F) : KProg F := .op (.semWait s n.toInt) fun _ => K

/-! ## The steps -/

/-- Chunk `k + 12`, for one of the first four chunks. -/
abbrev up (k : Fin 16) (h : k.val < 4) : Fin 16 := ⟨k.val + 12, by omega⟩

/-- One of the last four chunks is forwarded only when the buddy has handed a slot back. -/
def credY (k : Fin 16) (K : KProg F) : KProg F := if 12 ≤ k.val then take ycrS 1#32 K else K
/-- After one of the first four chunks has been forwarded, its slot is handed back to the partner, the partner's slot taken
    back, and the chunk twelve further sent through it. -/
def refill (d : Dev nD) (k : Fin 16) (K : KProg F) : KProg F :=
  if h : k.val < 4 then give (px d) xcrS <| take xcrS 1#32 <| sendX d (up k h) K else K
/-- After one of the buddy's first four chunks has been added, its slot is handed back to the buddy. -/
def grant (d : Dev nD) (k : Fin 16) (K : KProg F) : KProg F := if k.val < 4 then give (py d) ycrS K else K

/-- Everything done with the partner's chunk `k`. -/
def stepX (d : Dev nD) (k : Fin 16) (K : KProg F) : KProg F :=
  recvX d k <| credY k <| sendY d k <| addX d k <| flushX d k K
/-- Everything done with the buddy's chunk `k`. -/
def stepY (d : Dev nD) (k : Fin 16) (K : KProg F) : KProg F :=
  sentY k <| refill d k <| recvY k <| addY d k <| flushY d k <| grant d k K

/-- The first `n` of the chunks `i, i + 1, …` run through `f`. -/
def chunks (f : Fin 16 → KProg F → KProg F) (i : ℕ) : (n : ℕ) → (h : i + n ≤ 16) → KProg F → KProg F
  | 0, _, K => K
  | n + 1, h, K => f ⟨i, by omega⟩ (chunks f (i + 1) n (by omega) K)

/-- Chunk `k`, and the buddy's chunk two steps behind. -/
def stepXY (d : Dev nD) (k : Fin 16) (K : KProg F) : KProg F :=
  if h : 2 ≤ k.val then stepX d k (stepY d ⟨k.val - 2, by omega⟩ K) else stepX d k K
/-- The waits for the copies out in the order they were started. -/
def outXY (d : Dev nD) (k : Fin 16) (K : KProg F) : KProg F :=
  if h : 2 ≤ k.val then outX d k (outY d ⟨k.val - 2, by omega⟩ K) else outX d k K

/-- Start the copy of the kept column half into the accumulator. -/
def startOwn (d : Dev nD) (K : KProg F) : KProg F :=
  .op (.enqueueDma (xown d) (.here accM) (.dma localS) ((View.wordExact_bits rfl).reshape _ _) (Memref.isWhole_whole _).wordExact ⟨Or.inl rfl, trivial⟩) fun _ => K
/-- Wait for that copy. -/
def waitOwn (d : Dev nD) (K : KProg F) : KProg F :=
  .op (.waitDma2 localS (xown d) accM ((View.wordExact_bits rfl).reshape _ _) (Memref.isWhole_whole _).wordExact) fun _ => K

/-- The whole body. -/
def prog : KProg F :=
  .op .deviceId fun d =>
  give (px d) barS <| give (py d) barS <| take barS 2#32 <|
  startOwn d <| chunks (sendX d) 0 12 (by decide) <| waitOwn d <|
  chunks (stepXY d) 0 16 (by decide) <|
  chunks (stepY d) 14 2 (by decide) <|
  chunks (sentX d) 0 16 (by decide) <|
  chunks (outXY d) 0 16 (by decide) <|
  chunks (outY d) 14 2 (by decide) <| .ret ⟨⟩

/-- The printed body is this program. -/
theorem body_eq (t : Fin cfg0.N) : bodyAt0 (F := F) t = prog := by
  chain_rfl

end Cert.KernelIdeal.Own
end
-- ==== Proof.Ideal.Geometry.lean ====
/- Where the kernel's slices lie and what they hold.

   The buffers are cut into the parts the kernel's transfers name: the accumulator and the result into thirty-two
   bands of 256 rows, the two receive buffers into twelve slots, the argument into the kept column half, sixteen
   sent chunks and a rest. The contents of every part are written as one function of the arguments at launch. -/
module

public import proofs.«01_k».proof.Proof.Ideal.Body
public import Idealize.ShloMosaic.Lib.Pipeline.Value
public import Idealize.ShloMosaic.Lib.ViewIndex
public import Idealize.ShloMosaic.Lib.ValueIdxCore
public import Idealize.ShloMosaic.Lib.ValueIdxCoords

@[expose] public section

noncomputable section

namespace Cert.KernelIdeal.Own

open Idealize.ShloMosaic Idealize.SL.Sem Cert.KernelIdeal.Gen Idealize.ShloMosaic.ValueIdx

variable {F : FTy → Type} [FloatOps F]

/-! ## The devices -/

/-- A device's number is below sixteen. -/
theorem dev_lt (d : Dev nD) : d.val < 16 := d.isLt
/-- The partner's partner is the device itself. -/
theorem px_px (d : Dev nD) : px (px d) = d := by revert d; decide +kernel
/-- The buddy's buddy is the device itself. -/
theorem py_py (d : Dev nD) : py (py d) = d := by revert d; decide +kernel
/-- The partner has the other `x` coordinate. -/
theorem px_x (d : Dev nD) : (px d).val / 8 = 1 - d.val / 8 := by revert d; decide +kernel
/-- The partner has the same `y` coordinate. -/
theorem px_y (d : Dev nD) : (px d).val / 4 % 2 = d.val / 4 % 2 := by revert d; decide +kernel
/-- The buddy has the same `x` coordinate. -/
theorem py_x (d : Dev nD) : (py d).val / 8 = d.val / 8 := by revert d; decide +kernel
/-- The buddy has the other `y` coordinate. -/
theorem py_y (d : Dev nD) : (py d).val / 4 % 2 = 1 - d.val / 4 % 2 := by revert d; decide +kernel

/-! ## The parts -/

/-- Rows `[256 n, 256 n + 256)` of the accumulator or the result. -/
def band (n : ℕ) : Finset S8192x1024.Idx := Finset.univ.filter fun i => (i 0).val / 256 = n
/-- Slot `s` of a receive buffer. -/
def slab (s : ℕ) : Finset S12x256x1024.Idx := Finset.univ.filter fun i => (i 0).val = s
/-- The part of the argument an element belongs to: 16 for the kept half, the chunk for a sent one, 17 otherwise. -/
def xcls (d : Dev nD) (i : S1x8192x2048.Idx) : ℕ :=
  if (i 2).val / 1024 = d.val / 8 then 16 else if (i 1).val / 4096 = d.val / 4 % 2 then (i 1).val % 4096 / 256 else 17
/-- Part `n` of the argument. -/
def xpart (d : Dev nD) (n : ℕ) : Finset S1x8192x2048.Idx := Finset.univ.filter fun i => xcls d i = n

/-- The band of the partner's chunk `k`. -/
def bx (d : Dev nD) (k : ℕ) : ℕ := 16 * (d.val / 4 % 2) + k
/-- The band of the buddy's chunk `k`. -/
def byy (d : Dev nD) (k : ℕ) : ℕ := 16 * (1 - d.val / 4 % 2) + k

/-- A rectangle of 256 whole rows starting at row `256 n` is a band. -/
theorem rect_band {off : Fin 2 → ℕ} {inb} (n : ℕ) (h : off = ![256 * n, 0]) :
    (Rect.unit (s := S8192x1024) off S256x1024.size inb).set = band n := by
  subst h
  ext i
  have h1 : (i 1).val < 1024 := (i 1).isLt
  rw [Rect.mem_set_unit, band, Finset.mem_filter]
  constructor
  · intro h
    have h0 := h 0
    simp only [Matrix.cons_val_zero] at h0
    refine ⟨Finset.mem_univ _, ?_⟩
    have : S256x1024.size 0 = 256 := rfl
    omega
  · rintro ⟨-, h⟩ a
    match a with
    | ⟨0, _⟩ => show 256 * n ≤ (i 0).val ∧ (i 0).val < 256 * n + 256; omega
    | ⟨1, _⟩ => show 0 ≤ (i 1).val ∧ (i 1).val < 0 + 1024; omega

theorem off3_band (d : Dev nD) (k : Fin 16) : k0_off3 d (rw32 k) = ![256 * bx d k.val, 0] := by
  rw [k0_off3_eq, bx]; congr 1; omega
theorem off4_band (d : Dev nD) (k : Fin 16) : k0_off4 d (rw32 k) = ![256 * bx d k.val, 0] := by
  rw [k0_off4_eq, bx]; congr 1; omega
theorem off5_band (d : Dev nD) (k : Fin 16) : k0_off5 d (rw32 k) = ![256 * byy d k.val, 0] := by
  rw [k0_off5_eq, byy]; congr 1; omega
theorem off6_band (d : Dev nD) (k : Fin 16) : k0_off6 d (rw32 k) = ![256 * byy d k.val, 0] := by
  rw [k0_off6_eq, byy]; congr 1; omega

/-- The rows the partner's chunk is added to. -/
theorem set_rowX (d : Dev nD) (k : Fin 16) : (rowX d k).set = band (bx d k.val) := rect_band _ (off3_band d k)
theorem set_rowX' (d : Dev nD) (k : Fin 16) : (rowX' d k).set = band (bx d k.val) := rect_band _ (off4_band d k)
/-- The rows the buddy's chunk is added to. -/
theorem set_rowY (d : Dev nD) (k : Fin 16) : (rowY d k).set = band (byy d k.val) := rect_band _ (off5_band d k)
theorem set_rowY' (d : Dev nD) (k : Fin 16) : (rowY' d k).set = band (byy d k.val) := rect_band _ (off6_band d k)

/-- The rectangle of slot `s`. -/
theorem set_slotR (s : Fin 12) : (slotR s).set = slab s.val := by
  ext i
  have h1 : (i 1).val < 256 := (i 1).isLt
  have h2 : (i 2).val < 1024 := (i 2).isLt
  rw [Rect.mem_set_unit, slab, Finset.mem_filter]
  constructor
  · intro h
    have h0 := h 0
    have e : S1x256x1024.size 0 = 1 := rfl
    simp only [Matrix.cons_val_zero] at h0
    exact ⟨Finset.mem_univ _, by omega⟩
  · rintro ⟨-, h⟩ a
    match a with
    | ⟨0, _⟩ => show s.val ≤ (i 0).val ∧ (i 0).val < s.val + 1; omega
    | ⟨1, _⟩ => show 0 ≤ (i 1).val ∧ (i 1).val < 0 + 256; omega
    | ⟨2, _⟩ => show 0 ≤ (i 2).val ∧ (i 2).val < 0 + 1024; omega

theorem set_xslot (s : Fin 12) : (xslot s).view.set = slab s.val := by
  rw [← set_slotR]
  show (((View.whole cc0_scratch1).slice (slotR s)).reshape S256x1024 _).set = _
  rw [View.set_reshape]; exact View.set_slice_whole _ _
theorem set_yslot (s : Fin 12) : (yslot s).view.set = slab s.val := by
  rw [← set_slotR]
  show (((View.whole cc0_scratch2).slice (slotR s)).reshape S256x1024 _).set = _
  rw [View.set_reshape]; exact View.set_slice_whole _ _

/-- Chunk `k` sent to the partner is part `k` of the argument. -/
theorem set_xsrc (d : Dev nD) (k : Fin 16) : (xsrc d k).view.set = xpart d k.val := by
  show (((View.whole main_arg0).slice (Rect.unit (s := S1x8192x2048) (k0_off2 d (rw32 k)) S1x256x1024.size (k0_off2_inb d k))).reshape S256x1024 _).set = _
  rw [View.set_reshape]
  refine (View.set_slice_whole _ _).trans ?_
  ext i
  have hd := dev_lt d
  have hk := k.isLt
  have h0 : (i 0).val < 1 := (i 0).isLt
  have h1 : (i 1).val < 8192 := (i 1).isLt
  have h2 : (i 2).val < 2048 := (i 2).isLt
  rw [Rect.mem_set_unit, xpart, Finset.mem_filter, k0_off2_eq, xcls]
  constructor
  · intro h
    refine ⟨Finset.mem_univ _, ?_⟩
    have a1 : 4096 * (d.val / 4 % 2) + 256 * k.val ≤ (i 1).val ∧ (i 1).val < 4096 * (d.val / 4 % 2) + 256 * k.val + 256 := h 1
    have a2 : 1024 - 1024 * (d.val / 8) ≤ (i 2).val ∧ (i 2).val < 1024 - 1024 * (d.val / 8) + 1024 := h 2
    split_ifs <;> omega
  · rintro ⟨-, h⟩ a
    have hh : ¬ (i 2).val / 1024 = d.val / 8 ∧ (i 1).val / 4096 = d.val / 4 % 2 ∧ (i 1).val % 4096 / 256 = k.val := by
      split_ifs at h <;> omega
    match a with
    | ⟨0, _⟩ => show 0 ≤ (i 0).val ∧ (i 0).val < 0 + 1; omega
    | ⟨1, _⟩ => show 4096 * (d.val / 4 % 2) + 256 * k.val ≤ (i 1).val ∧ (i 1).val < 4096 * (d.val / 4 % 2) + 256 * k.val + 256; omega
    | ⟨2, _⟩ => show 1024 - 1024 * (d.val / 8) ≤ (i 2).val ∧ (i 2).val < 1024 - 1024 * (d.val / 8) + 1024; omega

/-- The kept column half is part 16 of the argument. -/
theorem set_xown (d : Dev nD) : (xown d).view.set = xpart d 16 := by
  show (((View.whole main_arg0).slice (Rect.unit (s := S1x8192x2048) (k0_off1 d) S1x8192x1024.size (k0_off1_inb d))).reshape S8192x1024 _).set = _
  rw [View.set_reshape]
  refine (View.set_slice_whole _ _).trans ?_
  ext i
  have hd := dev_lt d
  have h0 : (i 0).val < 1 := (i 0).isLt
  have h1 : (i 1).val < 8192 := (i 1).isLt
  have h2 : (i 2).val < 2048 := (i 2).isLt
  rw [Rect.mem_set_unit, xpart, Finset.mem_filter, k0_off1_eq, xcls]
  constructor
  · intro h
    refine ⟨Finset.mem_univ _, ?_⟩
    have a2 : 1024 * (d.val / 8) ≤ (i 2).val ∧ (i 2).val < 1024 * (d.val / 8) + 1024 := h 2
    split_ifs <;> omega
  · rintro ⟨-, h⟩ a
    have hh : (i 2).val / 1024 = d.val / 8 := by
      split_ifs at h <;> omega
    match a with
    | ⟨0, _⟩ => show 0 ≤ (i 0).val ∧ (i 0).val < 0 + 1; omega
    | ⟨1, _⟩ => show 0 ≤ (i 1).val ∧ (i 1).val < 0 + 8192; omega
    | ⟨2, _⟩ => show 1024 * (d.val / 8) ≤ (i 2).val ∧ (i 2).val < 1024 * (d.val / 8) + 1024; omega

theorem set_accX (d : Dev nD) (k : Fin 16) : (accM.access (rowX d k)).set = band (bx d k.val) := by
  rw [← set_rowX]; exact View.set_slice_whole _ _
theorem set_accX' (d : Dev nD) (k : Fin 16) : (accM.slice (rowX' d k) (fun _ => rfl)).view.set = band (bx d k.val) := by
  rw [← set_rowX']; exact View.set_slice_whole _ _
theorem set_outX' (d : Dev nD) (k : Fin 16) : (outM.slice (rowX' d k) (fun _ => rfl)).view.set = band (bx d k.val) := by
  rw [← set_rowX']; exact View.set_slice_whole _ _
theorem set_accY (d : Dev nD) (k : Fin 16) : (accM.access (rowY d k)).set = band (byy d k.val) := by
  rw [← set_rowY]; exact View.set_slice_whole _ _
theorem set_accY' (d : Dev nD) (k : Fin 16) : (accM.slice (rowY' d k) (fun _ => rfl)).view.set = band (byy d k.val) := by
  rw [← set_rowY']; exact View.set_slice_whole _ _
theorem set_outY' (d : Dev nD) (k : Fin 16) : (outM.slice (rowY' d k) (fun _ => rfl)).view.set = band (byy d k.val) := by
  rw [← set_rowY']; exact View.set_slice_whole _ _
theorem set_xcR (s : Fin 12) : (xcM.access (slotR s)).set = slab s.val := by
  rw [← set_slotR]; exact View.set_slice_whole _ _
theorem set_ycR (s : Fin 12) : (ycM.access (slotR s)).set = slab s.val := by
  rw [← set_slotR]; exact View.set_slice_whole _ _

/-! ## The contents -/

variable (X : Dev nD → S1x8192x2048.Idx → Elt F .f32)

/-- A row index from a number, -/
def row (n : ℕ) : Fin 8192 := ⟨n % 8192, Nat.mod_lt _ (by decide)⟩
/-- and a column index. -/
def col (n : ℕ) : Fin 2048 := ⟨n % 2048, Nat.mod_lt _ (by decide)⟩

/-- The kept column half of the argument. -/
def own (c : Dev nD) : S8192x1024.Idx → Elt F .f32 := fun i => X c (ix3 0 (row (i 0).val) (col (1024 * (c.val / 8) + (i 1).val)))
/-- What the partner sends as chunk `k`, at every slot. -/
def xin (c : Dev nD) (k : ℕ) : S12x256x1024.Idx → Elt F .f32 := fun j =>
  X (px c) (ix3 0 (row (4096 * (c.val / 4 % 2) + 256 * k + (j 1).val)) (col (1024 * (c.val / 8) + (j 2).val)))
/-- What the buddy forwards as chunk `k`: what its own partner sent it. -/
abbrev yin (c : Dev nD) (k : ℕ) : S12x256x1024.Idx → Elt F .f32 := xin X (py c) k
/-- The other column half: rows of a core's own half from its partner, the others from its buddy's partner. -/
def oth (c : Dev nD) : S8192x1024.Idx → Elt F .f32 := fun i =>
  X (if (i 0).val / 4096 = c.val / 4 % 2 then px c else px (py c)) (ix3 0 (row (i 0).val) (col (1024 * (c.val / 8) + (i 1).val)))
/-- The result: the two halves added. -/
def fin (c : Dev nD) : S8192x1024.Idx → Elt F .f32 := fun i => FloatOps.addf (F := F) (φ := .f32) (own X c i) (oth X c i)

/-- Where an element of a 256-row slice of a three-axis buffer lies, behind the leading unit axis. -/
theorem squeeze_idx (h : S256x1024.numel = S1x256x1024.numel) (j : S256x1024.Idx) :
    Shape.reshapeEquiv h j = (ix3 0 (j 0) (j 1) : S1x256x1024.Idx) := by
  refine (Shape.reshapeEquiv_cons_one h j).trans ?_
  funext a
  match a with
  | ⟨0, _⟩ => rfl
  | ⟨1, _⟩ => rfl
  | ⟨2, _⟩ => rfl

/-- The same for the whole column half. -/
theorem squeeze_idx' (h : S8192x1024.numel = S1x8192x1024.numel) (j : S8192x1024.Idx) :
    Shape.reshapeEquiv h j = (ix3 0 (j 0) (j 1) : S1x8192x1024.Idx) := by
  refine (Shape.reshapeEquiv_cons_one h j).trans ?_
  funext a
  match a with
  | ⟨0, _⟩ => rfl
  | ⟨1, _⟩ => rfl
  | ⟨2, _⟩ => rfl

/-- An element of slot `s`, by its row and column there. -/
def slotIdx (s : Fin 12) (j : S256x1024.Idx) : S12x256x1024.Idx := ix3 s (j 0) (j 1)

theorem emb_slot (s : Fin 12) (h) (j : S256x1024.Idx) :
    (slotR s).emb (Shape.reshapeEquiv (s := S1x256x1024) (s' := S256x1024) h j) = slotIdx s j := by
  rw [squeeze_idx]
  refine Shape.idx3_ext ?_ ?_ ?_
  · show s.val + 1 * 0 = s.val; omega
  · show 0 + 1 * (j 0).val = (j 0).val; omega
  · show 0 + 1 * (j 1).val = (j 1).val; omega

/-- A sent chunk's element in the argument. -/
theorem emb_xsrc (d : Dev nD) (k : Fin 16) (j : S256x1024.Idx) :
    (xsrc d k).view.emb j
      = (ix3 0 (row (4096 * (d.val / 4 % 2) + 256 * k.val + (j 0).val)) (col (1024 - 1024 * (d.val / 8) + (j 1).val)) : S1x8192x2048.Idx) := by
  have h0 : (j 0).val < 256 := (j 0).isLt
  have h1 : (j 1).val < 1024 := (j 1).isLt
  have hk := k.isLt
  show (Rect.unit (s := S1x8192x2048) (k0_off2 d (rw32 k)) S1x256x1024.size (k0_off2_inb d k)).emb (Shape.reshapeEquiv (s := S1x256x1024) (s' := S256x1024) _ j) = _
  rw [squeeze_idx]
  have e := k0_off2_eq d k
  refine Shape.idx3_ext ?_ ?_ ?_
  · show k0_off2 d (rw32 k) 0 + 1 * 0 = 0; rw [e]; rfl
  · show k0_off2 d (rw32 k) 1 + 1 * (j 0).val = (row _).val; rw [e]
    show 4096 * (d.val / 4 % 2) + 256 * k.val + 1 * (j 0).val = (4096 * (d.val / 4 % 2) + 256 * k.val + (j 0).val) % 8192; omega
  · show k0_off2 d (rw32 k) 2 + 1 * (j 1).val = (col _).val; rw [e]
    show 1024 - 1024 * (d.val / 8) + 1 * (j 1).val = (1024 - 1024 * (d.val / 8) + (j 1).val) % 2048; omega

/-- What lands at the partner when chunk `k` is sent. -/
theorem land_x (d : Dev nD) (k : Fin 16) (s : Fin 12) (fd : (xslot s).view.ty.Contents (Elt F)) (i : S12x256x1024.Idx) (hi : i ∈ (xslot s).view.set) :
    (xslot s).view.write (Elt F) fd ((xsrc d k).view.read (Elt F) (X d)) Finset.univ i = xin X (px d) k.val i := by
  obtain ⟨j, -, rfl⟩ := Finset.mem_map.mp hi
  rw [View.write_emb_of_mem _ _ (Finset.mem_univ _), View.read_apply]
  show X d ((xsrc d k).view.emb j) = xin X (px d) k.val ((slotR s).emb (Shape.reshapeEquiv (s := S1x256x1024) (s' := S256x1024) _ j))
  have hd := dev_lt d
  rw [emb_slot, emb_xsrc, xin, px_px, px_y, px_x]
  congr 2
  show col _ = col (_ + (j 1).val)
  congr 2; omega

/-- What lands at the buddy when chunk `k` is forwarded. -/
theorem land_y (d : Dev nD) (k : Fin 16) (s : Fin 12) (fd : (yslot s).view.ty.Contents (Elt F)) (i : S12x256x1024.Idx) (hi : i ∈ (yslot s).view.set) :
    (yslot s).view.write (Elt F) fd ((xslot s).view.read (Elt F) (xin X d k.val)) Finset.univ i = yin X (py d) k.val i := by
  obtain ⟨j, -, rfl⟩ := Finset.mem_map.mp hi
  rw [View.write_emb_of_mem _ _ (Finset.mem_univ _), View.read_apply]
  show xin X d k.val ((xslot s).view.emb j) = xin X (py (py d)) k.val ((xslot s).view.emb j)
  rw [py_py]

/-- What the local copy leaves in the accumulator. -/
theorem land_own (d : Dev nD) (fd : accM.view.ty.Contents (Elt F)) (i : S8192x1024.Idx) :
    accM.view.write (Elt F) fd ((xown d).view.read (Elt F) (X d)) Finset.univ i = own X d i := by
  refine (congrFun (View.write_whole_univ (Val := Elt F) cc0_scratch0 fd ((xown d).view.read (Elt F) (X d))) i).trans ?_
  rw [View.read_apply]
  show X d ((Rect.unit (s := S1x8192x2048) (k0_off1 d) S1x8192x1024.size (k0_off1_inb d)).emb (Shape.reshapeEquiv (s := S1x8192x1024) (s' := S8192x1024) _ i)) = _
  rw [squeeze_idx', own]
  have h0 : (i 0).val < 8192 := (i 0).isLt
  have h1 : (i 1).val < 1024 := (i 1).isLt
  have hd := dev_lt d
  have e := k0_off1_eq d
  refine congrArg (X d) (Shape.idx3_ext ?_ ?_ ?_)
  · show k0_off1 d 0 + 1 * 0 = 0; rw [e]; rfl
  · show k0_off1 d 1 + 1 * (i 0).val = (i 0).val % 8192; rw [e]
    show 0 + 1 * (i 0).val = (i 0).val % 8192; omega
  · show k0_off1 d 2 + 1 * (i 1).val = (1024 * (d.val / 8) + (i 1).val) % 2048; rw [e]
    show 1024 * (d.val / 8) + 1 * (i 1).val = (1024 * (d.val / 8) + (i 1).val) % 2048; omega

/-- The value a step stores, by row and column. -/
theorem addPay_apply (a : Vec F S256x1024 .f32) (b : Vec F S1x256x1024 .f32) (j : S256x1024.Idx) :
    addPay a b j = FloatOps.addf (F := F) (φ := .f32) (a j) (b (ix3 0 (j 0) (j 1))) := by
  rw [addPay, shapeCast_self]
  show FloatOps.addf (F := F) (φ := .f32) (a j) (b (Shape.reshapeEquiv _ j)) = _
  rw [squeeze_idx]

/-- What a slot's load reads. -/
theorem read_slotX (s : Fin 12) (f : S12x256x1024.Idx → Elt F .f32) (j : S256x1024.Idx) :
    (xcM.access (slotR s)).read (Elt F) f (ix3 0 (j 0) (j 1) : S1x256x1024.Idx) = f (slotIdx s j) := by
  rw [View.read_apply]
  show f ((slotR s).emb (ix3 0 (j 0) (j 1) : S1x256x1024.Idx)) = _
  rw [← squeeze_idx (by decide) j, emb_slot]
theorem read_slotY (s : Fin 12) (f : S12x256x1024.Idx → Elt F .f32) (j : S256x1024.Idx) :
    (ycM.access (slotR s)).read (Elt F) f (ix3 0 (j 0) (j 1) : S1x256x1024.Idx) = f (slotIdx s j) := read_slotX s f j

/-- An element of a band, by its row and column there. -/
theorem emb_band {off : Fin 2 → ℕ} {inb} (n : ℕ) (h : off = ![256 * n, 0]) (j : S256x1024.Idx) :
    (((Rect.unit (s := S8192x1024) off S256x1024.size inb).emb j) 0).val = 256 * n + (j 0).val
      ∧ (((Rect.unit (s := S8192x1024) off S256x1024.size inb).emb j) 1).val = (j 1).val := by
  subst h
  constructor
  · show 256 * n + 1 * (j 0).val = _; omega
  · show 0 + 1 * (j 1).val = _; omega

/-- Adding the partner's chunk leaves the result in its band. -/
theorem store_x (d : Dev nD) (k : Fin 16) (s : Fin 12) (i : S8192x1024.Idx) (hi : i ∈ (accM.access (rowX d k)).set) :
    (accM.access (rowX d k)).write (Elt F) (own X d)
      (addPay ((accM.access (rowX d k)).read (Elt F) (own X d)) ((xcM.access (slotR s)).read (Elt F) (xin X d k.val))) Finset.univ i = fin X d i := by
  obtain ⟨j, -, rfl⟩ := Finset.mem_map.mp hi
  rw [View.write_emb_of_mem _ _ (Finset.mem_univ _)]
  refine (addPay_apply _ _ j).trans ?_
  rw [read_slotX, View.read_apply]
  have hj := emb_band (inb := k0_off3_inb d k) _ (off3_band d k) j
  have h0 : (j 0).val < 256 := (j 0).isLt
  have hk := k.isLt
  show FloatOps.addf (F := F) (φ := .f32) (own X d ((rowX d k).emb j)) (xin X d k.val (slotIdx s j)) = FloatOps.addf (F := F) (φ := .f32) (own X d ((rowX d k).emb j)) (oth X d ((rowX d k).emb j))
  have hc : 256 * bx d k.val + (j 0).val = 4096 * (d.val / 4 % 2) + 256 * k.val + (j 0).val := by rw [bx]; omega
  rw [oth, hj.1, hj.2, hc, if_pos (by omega)]; rfl

/-- Adding the buddy's chunk leaves the result in its band. -/
theorem store_y (d : Dev nD) (k : Fin 16) (s : Fin 12) (i : S8192x1024.Idx) (hi : i ∈ (accM.access (rowY d k)).set) :
    (accM.access (rowY d k)).write (Elt F) (own X d)
      (addPay ((accM.access (rowY d k)).read (Elt F) (own X d)) ((ycM.access (slotR s)).read (Elt F) (yin X d k.val))) Finset.univ i = fin X d i := by
  obtain ⟨j, -, rfl⟩ := Finset.mem_map.mp hi
  rw [View.write_emb_of_mem _ _ (Finset.mem_univ _)]
  refine (addPay_apply _ _ j).trans ?_
  rw [read_slotY, View.read_apply]
  have hj := emb_band (inb := k0_off5_inb d k) _ (off5_band d k) j
  have h0 : (j 0).val < 256 := (j 0).isLt
  have hk := k.isLt
  show FloatOps.addf (F := F) (φ := .f32) (own X d ((rowY d k).emb j)) (xin X (py d) k.val (slotIdx s j)) = FloatOps.addf (F := F) (φ := .f32) (own X d ((rowY d k).emb j)) (oth X d ((rowY d k).emb j))
  have hc : 256 * byy d k.val + (j 0).val = 4096 * (1 - d.val / 4 % 2) + 256 * k.val + (j 0).val := by rw [byy]; omega
  rw [oth, hj.1, hj.2, hc, if_neg (by omega), xin, py_x, py_y]; rfl

/-- A copy out leaves in the result's band what the accumulator's holds. -/
theorem land_outX (d : Dev nD) (k : Fin 16) (fd f : S8192x1024.Idx → Elt F .f32) (i : S8192x1024.Idx)
    (hi : i ∈ (outM.slice (rowX' d k) (fun _ => rfl)).view.set) :
    (outM.slice (rowX' d k) (fun _ => rfl)).view.write (Elt F) fd ((accM.slice (rowX' d k) (fun _ => rfl)).view.read (Elt F) f) Finset.univ i = f i := by
  obtain ⟨j, -, rfl⟩ := Finset.mem_map.mp hi
  rw [View.write_emb_of_mem _ _ (Finset.mem_univ _), View.read_apply]; rfl
theorem land_outY (d : Dev nD) (k : Fin 16) (fd f : S8192x1024.Idx → Elt F .f32) (i : S8192x1024.Idx)
    (hi : i ∈ (outM.slice (rowY' d k) (fun _ => rfl)).view.set) :
    (outM.slice (rowY' d k) (fun _ => rfl)).view.write (Elt F) fd ((accM.slice (rowY' d k) (fun _ => rfl)).view.read (Elt F) f) Finset.univ i = f i := by
  obtain ⟨j, -, rfl⟩ := Finset.mem_map.mp hi
  rw [View.write_emb_of_mem _ _ (Finset.mem_univ _), View.read_apply]; rfl

end Cert.KernelIdeal.Own
end
-- ==== Proof.Ideal.Protocol.lean ====
/- The protocol of the kernel: its semaphores as cells of rounds, what every instalment hands over, what every core owes,
   and the levels that order the waits.

   Every semaphore of every device is a cell. A DMA cell has one instalment per round, a transfer's landing; a receive
   slot that is used twice has two rounds. The barrier cell collects the memory a core's two peers lend it to write
   into. The two credit cells collect four signals, each saying which slots have been handed back; a slot itself waits
   in an invariant (`Release`), because a wait for one signal does not tell which of the four arrived. -/
module

public import proofs.«01_k».proof.Proof.Ideal.Geometry
public import Idealize.ShloMosaic.Lib.Release
import Mathlib.Tactic.Abel

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Runs of a family

A core works through its chunks in order, so what it holds of a family is always a run of it. -/

section Runs
variable {M : Type} [URA M] {n : ℕ}

/-- The members of a family with numbers in `[l, i)`. -/
def iv (l i : ℕ) (A : Fin n → sProp M) : sProp M := bigSep (Finset.univ.filter fun k : Fin n => l ≤ k.val ∧ k.val < i) A

/-- The first member taken from a run. -/
theorem iv_take (A : Fin n → sProp M) (k : Fin n) {i : ℕ} (h : k.val < i) : iv k.val i A ⊢ iprop(A k ∗ iv (k.val + 1) i A) := by
  unfold iv
  have e : (Finset.univ.filter fun j : Fin n => k.val ≤ j.val ∧ j.val < i) = insert k (Finset.univ.filter fun j : Fin n => k.val + 1 ≤ j.val ∧ j.val < i) := by
    ext j; simp only [Finset.mem_filter, Finset.mem_univ, true_and, Finset.mem_insert, Fin.ext_iff]; omega
  rw [e, bigSep_insert (by simp)]
  exact Entails.refl _

/-- A member put at the end of a run. -/
theorem iv_put (A : Fin n → sProp M) (k : Fin n) {l : ℕ} (h : l ≤ k.val) : iprop(iv l k.val A ∗ A k) ⊢ iv l (k.val + 1) A := by
  unfold iv
  have e : (Finset.univ.filter fun j : Fin n => l ≤ j.val ∧ j.val < k.val + 1) = insert k (Finset.univ.filter fun j : Fin n => l ≤ j.val ∧ j.val < k.val) := by
    ext j; simp only [Finset.mem_filter, Finset.mem_univ, true_and, Finset.mem_insert, Fin.ext_iff]; omega
  rw [e, bigSep_insert (by simp)]
  exact Idealize.SL.BI.sep_comm.trans (Entails.refl _)

/-- An empty run. -/
theorem iv_nil (A : Fin n → sProp M) {l i : ℕ} (h : i ≤ l) : iv l i A = iprop(emp) := by
  unfold iv
  rw [Finset.filter_false_of_mem (by intro j _; omega), bigSep_empty]; rfl

/-- The whole family is a run. -/
theorem iv_all (A : Fin n → sProp M) : bigSep Finset.univ A = iv 0 n A := by
  unfold iv
  rw [Finset.filter_true_of_mem (by intro j _; exact ⟨Nat.zero_le _, j.isLt⟩)]

/-- A run as a conjunction over a narrower index, past the end of the run. -/
theorem iv_end (A : Fin n → sProp M) {l l' i i' : ℕ} (h : ∀ j : Fin n, (l ≤ j.val ∧ j.val < i) ↔ (l' ≤ j.val ∧ j.val < i')) : iv l i A = iv l' i' A := by
  unfold iv; congr 1; ext j; simp only [Finset.mem_filter, Finset.mem_univ, true_and]; exact h j

end Runs

/-! ## The cells -/

/-- The semaphores of a core, by what they are for. -/
inductive CK
  | bar | xcr | ycr | loc
  | xsend (k : Fin 16) | xrecv (s : Fin 12) | ysend (k : Fin 16) | yrecv (s : Fin 12) | xout (k : Fin 16) | yout (k : Fin 16)
deriving DecidableEq

/-- The semaphore of a kind. -/
def CK.sem : CK → SemLoc sig
  | .bar => .reg barS | .xcr => .reg xcrS | .ycr => .reg ycrS | .loc => .dma localS
  | .xsend k => .dma (xsendS k) | .xrecv s => .dma (xrecvS s) | .ysend k => .dma (ysendS k) | .yrecv s => .dma (yrecvS s)
  | .xout k => .dma (xoutS k) | .yout k => .dma (youtS k)

/-- A number below sixteen, -/
def f16 (n : ℕ) : Fin 16 := ⟨n % 16, Nat.mod_lt _ (by decide)⟩
/-- and one below twelve. -/
def f12 (n : ℕ) : Fin 12 := ⟨n % 12, Nat.mod_lt _ (by decide)⟩

/-- The kind of a semaphore. -/
def CK.of : SemLoc sig → CK
  | .reg i => if i.val = 0 then .xcr else if i.val = 1 then .ycr else .bar
  | .dma i =>
    if i.val < 1 then .loc else if i.val < 17 then .xsend (f16 (i.val - 1)) else if i.val < 29 then .xrecv (f12 (i.val - 17))
    else if i.val < 45 then .ysend (f16 (i.val - 29)) else if i.val < 57 then .yrecv (f12 (i.val - 45))
    else if i.val < 73 then .xout (f16 (i.val - 57)) else .yout (f16 (i.val - 73))

theorem CK.of_sem (k : CK) : CK.of k.sem = k := by
  cases k with
  | bar => decide +kernel
  | xcr => decide +kernel
  | ycr => decide +kernel
  | loc => decide +kernel
  | xsend k => revert k; decide +kernel
  | xrecv k => revert k; decide +kernel
  | ysend k => revert k; decide +kernel
  | yrecv k => revert k; decide +kernel
  | xout k => revert k; decide +kernel
  | yout k => revert k; decide +kernel

theorem CK.sem_of (s : SemLoc sig) : (CK.of s).sem = s := by
  cases s with
  | reg i => revert i; decide +kernel
  | dma i => revert i; decide +kernel

/-- The kinds are the semaphores. -/
def CK.equiv : CK ≃ SemLoc sig := ⟨CK.sem, CK.of, CK.of_sem, CK.sem_of⟩

/-- The cell of kind `k` on device `c`. -/
abbrev cell (c : Dev nD) (k : CK) : GSem nD τ sig := ((Dev.tc c : Thread nD τ), k.sem)

theorem cell_inj {c c' : Dev nD} {k k' : CK} (h : cell c k = cell c' k') : c = c' ∧ k = k' :=
  ⟨congrArg (fun g : GSem nD τ sig => g.1.1) h, CK.equiv.injective (congrArg Prod.snd h)⟩

/-! ## The algebra -/

/-- A slot handed back: its device, whether it receives from the buddy, and which of the first four it is. -/
abbrev Key : Type := Dev nD × Bool × Fin 4
abbrev UB : Type := URounds (GSem nD τ sig) (Fin 4) × Release.USlots Key
abbrev UU : Type := UR sig nD τ × UB

local notation "𝕄" => MT nD τ sig (Fin 16) (Elt F) ℕ UU ℕ

abbrev EP : Emb (UR sig nD τ) (MT nD τ sig (Fin 16) (Elt F) ℕ UU ℕ) := embL
abbrev EB : Emb UB (MT nD τ sig (Fin 16) (Elt F) ℕ UU ℕ) := embR
abbrev ER : Emb (URounds (GSem nD τ sig) (Fin 4)) (MT nD τ sig (Fin 16) (Elt F) ℕ UU ℕ) := Emb.inl.trans EB
abbrev ES : Emb (Release.USlots Key) (MT nD τ sig (Fin 16) (Elt F) ℕ UU ℕ) := Emb.inr.trans EB

instance ER_landsIn : (ER : Emb _ 𝕄).LandsIn (upEmb : UEmb _ 𝕄) := by unfold ER; infer_instance
instance ES_landsIn : (ES : Emb _ 𝕄).LandsIn (upEmb : UEmb _ 𝕄) := by unfold ES; infer_instance

/-! ## The memory -/

abbrev xL (c : Dev nD) : Loc nD τ sig := (Dev.tc c : Thread nD τ).loc main_arg0
abbrev outL (c : Dev nD) : Loc nD τ sig := (Dev.tc c : Thread nD τ).loc main_v1
abbrev accL (c : Dev nD) : Loc nD τ sig := (Dev.tc c : Thread nD τ).loc cc0_scratch0
abbrev xcL (c : Dev nD) : Loc nD τ sig := (Dev.tc c : Thread nD τ).loc cc0_scratch1
abbrev ycL (c : Dev nD) : Loc nD τ sig := (Dev.tc c : Thread nD τ).loc cc0_scratch2

variable (X : Dev nD → S1x8192x2048.Idx → Elt F .f32)

/-- Part `n` of a core's argument, unchanged. -/
def xP (c : Dev nD) (n : ℕ) : sProp 𝕄 := (xL c) ↦[xpart c n]{fullShare} (X c : Buf (Elt F) (xL c))
/-- A band of the accumulator holding `f`, -/
def accP (c : Dev nD) (n : ℕ) (f : S8192x1024.Idx → Elt F .f32) : sProp 𝕄 := (accL c) ↦[band n]{fullShare} (f : Buf (Elt F) (accL c))
/-- and of the result. -/
def outP (c : Dev nD) (n : ℕ) (f : S8192x1024.Idx → Elt F .f32) : sProp 𝕄 := (outL c) ↦[band n]{fullShare} (f : Buf (Elt F) (outL c))
/-- A slot of the buffer that receives from the partner holding `f`, at a share, -/
def xsP (c : Dev nD) (s : ℕ) (q : PosShare TreeShare) (f : S12x256x1024.Idx → Elt F .f32) : sProp 𝕄 := (xcL c) ↦[slab s]{q} (f : Buf (Elt F) (xcL c))
/-- and of the one that receives from the buddy. -/
def ysP (c : Dev nD) (s : ℕ) (q : PosShare TreeShare) (f : S12x256x1024.Idx → Elt F .f32) : sProp 𝕄 := (ycL c) ↦[slab s]{q} (f : Buf (Elt F) (ycL c))
/-- A slot at any contents, -/
def xsA (c : Dev nD) (s : ℕ) : sProp 𝕄 := iprop(∃ f, xsP c s fullShare f)
def ysA (c : Dev nD) (s : ℕ) : sProp 𝕄 := iprop(∃ f, ysP c s fullShare f)
/-- and a band of the result at any contents. -/
def outA (c : Dev nD) (n : ℕ) : sProp 𝕄 := iprop(∃ f, outP c n f)

instance (c n) : BI.Storable (upEmb : UEmb _ 𝕄) (xP (F := F) X c n) := by unfold xP; infer_instance
instance (c n f) : BI.Storable (upEmb : UEmb _ 𝕄) (accP (F := F) c n f) := by unfold accP; infer_instance
instance (c n f) : BI.Storable (upEmb : UEmb _ 𝕄) (outP (F := F) c n f) := by unfold outP; infer_instance
instance (c s q f) : BI.Storable (upEmb : UEmb _ 𝕄) (xsP (F := F) c s q f) := by unfold xsP; infer_instance
instance (c s q f) : BI.Storable (upEmb : UEmb _ 𝕄) (ysP (F := F) c s q f) := by unfold ysP; infer_instance
instance (c s) : BI.Storable (upEmb : UEmb _ 𝕄) (xsA (F := F) c s) := by unfold xsA; infer_instance
instance (c s) : BI.Storable (upEmb : UEmb _ 𝕄) (ysA (F := F) c s) := by unfold ysA; infer_instance

/-- Slot `s` as an invariant keeps it. -/
def keySlot : Key → sProp 𝕄
  | (c, false, i) => xsA c i.val
  | (c, true, i) => ysA c i.val

instance (k : Key) : BI.Storable (upEmb : UEmb _ 𝕄) (keySlot (F := F) k) := by
  obtain ⟨c, b, i⟩ := k
  cases b
  · exact (inferInstance : BI.Storable (upEmb : UEmb _ 𝕄) (xsA (F := F) c i.val))
  · exact (inferInstance : BI.Storable (upEmb : UEmb _ 𝕄) (ysA (F := F) c i.val))

/-! ## The schedule -/

/-- One of the first four slots, as one of the twelve. -/
abbrev s4 (i : Fin 4) : Fin 12 := ⟨i.val, by omega⟩

/-- Device `e` has handed slot `i` back, and is past the first round of the slot's receive cell. -/
def fact (e : Dev nD) : Bool → Fin 4 → sProp 𝕄
  | false, i => iprop(Release.released ES ((e, false, i) : Key) 1 ∗ reached ER (cell e (.xrecv (s4 i))) 1)
  | true, i => iprop(Release.released ES ((e, true, i) : Key) 1 ∗ reached ER (cell e (.yrecv (s4 i))) 1)
/-- The first `n` slots handed back. -/
def facts (e : Dev nD) (b : Bool) (n : ℕ) : sProp 𝕄 := iv 0 n (fact (F := F) e b)

instance (e b i) : BI.Persistent (fact (F := F) e b i) := by cases b <;> (unfold fact; infer_instance)
instance (e b i) : BI.Storable (upEmb : UEmb _ 𝕄) (fact (F := F) e b i) := by cases b <;> (unfold fact; infer_instance)
instance (e b n) : BI.Persistent (facts (F := F) e b n) := by unfold facts iv; infer_instance
instance (e b n) : BI.Storable (upEmb : UEmb _ 𝕄) (facts (F := F) e b n) := by unfold facts iv; infer_instance

/-- The half of a slot the forwarding transfer reads from. -/
abbrev qL : PosShare TreeShare := (fullShare : PosShare TreeShare).left
/-- The half a core keeps to read from meanwhile. -/
abbrev qR : PosShare TreeShare := (fullShare : PosShare TreeShare).right

/-- What the two peers' first signals hand over: the partner's slots, and the buddy's. -/
def barPay (c : Dev nD) (j : Fin 4) : sProp 𝕄 := match j with
  | 0 => bigSep Finset.univ (fun s : Fin 12 => xsA (px c) s.val)
  | _ => bigSep Finset.univ (fun s : Fin 12 => ysA (py c) s.val)

instance (c j) : BI.Storable (upEmb : UEmb _ 𝕄) (barPay (F := F) c j) := by unfold barPay; split <;> infer_instance

/-- What an instalment hands to the cell's owner `c`. -/
def pay (c : Dev nD) : CK → ℕ → Fin 4 → sProp 𝕄
  | .bar, _, j => barPay c j
  | .xcr, _, j => facts (px c) false (j.val + 1)
  | .ycr, _, j => facts (py c) true (j.val + 1)
  | .loc, _, _ => iprop(((accL c) ↦{fullShare} (own X c : Buf (Elt F) (accL c))) ∗ xP X c 16)
  | .xsend k, _, _ => xP X c k.val
  | .xrecv s, r, _ => xsP c s.val fullShare (xin X c (s.val + 12 * r))
  | .ysend k, _, _ => xsP c (slot k).val qL (xin X c k.val)
  | .yrecv s, r, _ => ysP c s.val fullShare (yin X c (s.val + 12 * r))
  | .xout k, _, _ => iprop(outP c (bx c k.val) (fin X c) ∗ accP c (bx c k.val) (fin X c))
  | .yout k, _, _ => iprop(outP c (byy c k.val) (fin X c) ∗ accP c (byy c k.val) (fin X c))

instance (c : Dev nD) (k : CK) (r : ℕ) (j : Fin 4) : BI.Storable (upEmb : UEmb _ 𝕄) (pay X c k r j) := by
  cases k <;> (unfold pay; infer_instance)

/-- The instalments of a round. -/
def dset : CK → ℕ → Finset (Fin 4)
  | .bar, r => if r = 0 then {0, 1} else ∅
  | .xcr, r => if r = 0 then Finset.univ else ∅
  | .ycr, r => if r = 0 then Finset.univ else ∅
  | .xrecv s, r => if r = 0 ∨ r = 1 ∧ s.val < 4 then {0} else ∅
  | .yrecv s, r => if r = 0 ∨ r = 1 ∧ s.val < 4 then {0} else ∅
  | _, r => if r = 0 then {0} else ∅

/-- The rounds a cell goes through. -/
def rounds : CK → ℕ
  | .xrecv s => if s.val < 4 then 2 else 1
  | .yrecv s => if s.val < 4 then 2 else 1
  | _ => 1

/-- The units of a chunk's transfer, -/
abbrev N : ℕ := (xslot 0).view.dmaCredit
/-- and of the local copy. -/
abbrev NL : ℕ := accM.view.dmaCredit

/-- The units of an instalment. -/
def amt : CK → ℕ
  | .bar => 1 | .xcr => 1 | .ycr => 1 | .loc => NL | _ => N

theorem amt_pos (k : CK) : 0 < amt k := by
  have h1 : 0 < N := View.dmaCredit_pos _ (by decide)
  have h2 : 0 < NL := View.dmaCredit_pos _ (by decide)
  cases k <;> first | exact h1 | exact h2 | exact Nat.one_pos

/-- The schedule of all cells. -/
def Rd : Schedule (GSem nD τ sig) (Fin 4) 𝕄 where
  duties g r := dset (CK.of g.2) r
  amount g _ _ := amt (CK.of g.2)
  payload g r d := pay X g.1.1 (CK.of g.2) r d
  amount_pos g _ _ _ := amt_pos _
  unitless _ := False

instance Rd_storable (g : GSem nD τ sig) (r : ℕ) (d : Fin 4) : BI.Storable (upEmb : UEmb _ 𝕄) ((Rd (F := F) X).payload g r d) := by
  show BI.Storable upEmb (pay X g.1.1 (CK.of g.2) r d); infer_instance

section Sched
variable (c : Dev nD) (k : CK) (r : ℕ)

theorem Rd_duties : (Rd (F := F) X).duties (cell c k) r = dset k r := by show dset (CK.of k.sem) r = _; rw [CK.of_sem]
theorem Rd_amount (d : Fin 4) : (Rd (F := F) X).amount (cell c k) r d = amt k := by show amt (CK.of k.sem) = _; rw [CK.of_sem]
theorem Rd_payload (d : Fin 4) : (Rd (F := F) X).payload (cell c k) r d = pay X c k r d := by show pay X c (CK.of k.sem) r d = _; rw [CK.of_sem]
theorem Rd_expect : (Rd (F := F) X).expect (cell c k) r = (dset k r).card * amt k := by
  unfold Schedule.expect Schedule.amountOf
  rw [Rd_duties, Finset.sum_congr rfl fun d _ => Rd_amount X c k r d, Finset.sum_const, smul_eq_mul]

/-- After its rounds a cell has no instalments. -/
theorem dset_end : rounds k ≤ r → dset k r = ∅ := by
  intro h
  cases k <;> simp only [rounds] at h <;> simp only [dset] <;> (try split_ifs at h) <;> rw [if_neg (by omega)]

end Sched

/-! ## What a core owes -/

section Owe
variable {n : ℕ}

/-- The tallies of a family from number `i` on. -/
def oweF (T : Fin n → CellTallies nD τ sig (Fin 16)) (i : ℕ) : CellTallies nD τ sig (Fin 16) := ∑ k ∈ Finset.univ.filter (fun k : Fin n => i ≤ k.val), T k

theorem oweF_peel (T : Fin n → CellTallies nD τ sig (Fin 16)) (k : Fin n) : oweF T k.val = oweF T (k.val + 1) + T k := by
  unfold oweF
  have e : (Finset.univ.filter fun j : Fin n => k.val ≤ j.val) = insert k (Finset.univ.filter fun j : Fin n => k.val + 1 ≤ j.val) := by
    ext j; simp only [Finset.mem_filter, Finset.mem_univ, true_and, Finset.mem_insert, Fin.ext_iff]; omega
  rw [e, Finset.sum_insert (by simp), add_comm]

theorem oweF_end (T : Fin n → CellTallies nD τ sig (Fin 16)) {i : ℕ} (h : n ≤ i) : oweF T i = 0 := by
  unfold oweF
  rw [Finset.filter_false_of_mem (by intro j _; omega), Finset.sum_empty]

theorem oweF_pos {T : Fin n → CellTallies nD τ sig (Fin 16)} {i : ℕ} {g : GSem nD τ sig} {ι : Fin 16} (h : 0 < oweF T i g ι) :
    ∃ k : Fin n, i ≤ k.val ∧ 0 < T k g ι := by
  obtain ⟨k, hk, hp⟩ := Pipeline.sum_pos_exists h
  exact ⟨k, (Finset.mem_filter.mp hk).2, hp⟩

end Owe

/-- Chunk `k` sent to the partner, -/
def tX (c : Dev nD) (k : Fin 16) : CellTallies nD τ sig (Fin 16) := tallyAt (cell (px c) (.xrecv (slot k))) k N
/-- forwarded to the buddy, -/
def tY (c : Dev nD) (k : Fin 16) : CellTallies nD τ sig (Fin 16) := tallyAt (cell (py c) (.yrecv (slot k))) k N
/-- the `j`-th signal to the partner -/
def tXC (c : Dev nD) (j : Fin 4) : CellTallies nD τ sig (Fin 16) := tallyAt (cell (px c) .xcr) ⟨j.val, by omega⟩ 1
/-- and to the buddy. -/
def tYC (c : Dev nD) (j : Fin 4) : CellTallies nD τ sig (Fin 16) := tallyAt (cell (py c) .ycr) ⟨j.val, by omega⟩ 1

/-- What a core owes that has sent `a` chunks, forwarded `b`, and signalled its partner `g` and its buddy `h` times. -/
def owe (c : Dev nD) (a b g h : ℕ) : CellTallies nD τ sig (Fin 16) := oweF (tX c) a + oweF (tY c) b + oweF (tXC c) g + oweF (tYC c) h

theorem owe_a (c : Dev nD) (k : Fin 16) (b g h : ℕ) : owe c k.val b g h = owe c (k.val + 1) b g h + tX c k := by
  unfold owe; rw [oweF_peel (tX c) k]; abel
theorem owe_b (c : Dev nD) (a : ℕ) (k : Fin 16) (g h : ℕ) : owe c a k.val g h = owe c a (k.val + 1) g h + tY c k := by
  unfold owe; rw [oweF_peel (tY c) k]; abel
theorem owe_g (c : Dev nD) (a b : ℕ) (j : Fin 4) (h : ℕ) : owe c a b j.val h = owe c a b (j.val + 1) h + tXC c j := by
  unfold owe; rw [oweF_peel (tXC c) j]; abel
theorem owe_h (c : Dev nD) (a b g : ℕ) (j : Fin 4) : owe c a b g j.val = owe c a b g (j.val + 1) + tYC c j := by
  unfold owe; rw [oweF_peel (tYC c) j]; abel
theorem owe_end (c : Dev nD) : owe c 16 16 4 4 = 0 := by
  unfold owe; rw [oweF_end _ (le_refl _), oweF_end _ (le_refl _), oweF_end _ (le_refl _), oweF_end _ (le_refl _), add_zero, add_zero, add_zero]

/-- At launch a core also owes both its peers' barriers a unit. -/
def owe₀ (c : Dev nD) : CellTallies nD τ sig (Fin 16) := owe c 0 0 0 0 + tallyAt (cell (py c) .bar) 0 1 + tallyAt (cell (px c) .bar) 0 1

/-! ## The levels -/

/-- Every index of a core's cells has a level. -/
def L (g : GSem nD τ sig) : Finset (Fin 16) := if g.1.2 = .tc then Finset.univ else ∅
/-- The level of a kind's cell at an index. -/
def lvK : CK → ℕ → ℕ
  | .xrecv _, k => if k < 12 then 1 else 10 * (k - 9) + 3
  | .yrecv _, k => 10 * (k + 1) + 1
  | .xcr, j => 10 * (j + 3) + 2
  | .ycr, j => 10 * (j + 3) + 4
  | _, _ => 0
def lv (g : GSem nD τ sig) (ι : Fin 16) : ℕ := lvK (CK.of g.2) ι.val

theorem L_of_ne (g : GSem nD τ sig) (h : g.1.2 ≠ .tc) : L g = ∅ := if_neg h
theorem L_cell (c : Dev nD) (k : CK) : L (cell c k) = Finset.univ := if_pos rfl
theorem lv_cell (c : Dev nD) (k : CK) (ι : Fin 16) : lv (cell c k) ι = lvK k ι.val := by unfold lv; rw [CK.of_sem]

theorem tally_pos {g g' : GSem nD τ sig} {ι ι' : Fin 16} {n : ℕ} (h : 0 < tallyAt g ι n g' ι') : g' = g ∧ ι' = ι := by
  rw [tallyAt_apply] at h
  by_contra hn
  rw [if_neg hn] at h; omega

/-- The levels of all cells. -/
def Lev : sProp 𝕄 := levAts L lv
instance : BI.Persistent (Lev (F := F)) := by unfold Lev; infer_instance

/-- A wait at an index below everything still owed. -/
theorem mayWait (c : Dev nD) (s : CK) (ι : Fin 16) {a b g h : ℕ}
    (ha : ∀ k : ℕ, k < 16 → a ≤ k → lvK s ι.val < lvK (.xrecv 0) k) (hb : ∀ k : ℕ, k < 16 → b ≤ k → lvK s ι.val < lvK (.yrecv 0) k)
    (hg : ∀ k : ℕ, k < 4 → g ≤ k → lvK s ι.val < lvK .xcr k) (hh : ∀ k : ℕ, k < 4 → h ≤ k → lvK s ι.val < lvK .ycr k) :
    Lev ⊢ (MayWait (Dev.tc c : Thread nD τ) s.sem ι (owe c a b g h) : sProp 𝕄) := by
  unfold Lev
  refine Pipeline.mayWait_of_levAts (by rw [L_cell]; exact Finset.mem_univ _) ?_
  intro g' i hp
  rw [lv_cell]
  unfold owe at hp
  rw [Pi.add_apply, Finsupp.add_apply, Pi.add_apply, Finsupp.add_apply, Pi.add_apply, Finsupp.add_apply] at hp
  have h4 : 0 < oweF (tX c) a g' i ∨ 0 < oweF (tY c) b g' i ∨ 0 < oweF (tXC c) g g' i ∨ 0 < oweF (tYC c) h g' i := by omega
  rcases h4 with h4 | h4 | h4 | h4
  · obtain ⟨k, hk, hp⟩ := oweF_pos h4
    obtain ⟨rfl, e⟩ := tally_pos hp
    rw [L_cell, lv_cell, e]
    exact ⟨Finset.mem_univ _, ha _ k.isLt hk⟩
  · obtain ⟨k, hk, hp⟩ := oweF_pos h4
    obtain ⟨rfl, e⟩ := tally_pos hp
    rw [L_cell, lv_cell, e]
    exact ⟨Finset.mem_univ _, hb _ k.isLt hk⟩
  · obtain ⟨k, hk, hp⟩ := oweF_pos h4
    obtain ⟨rfl, e⟩ := tally_pos hp
    rw [L_cell, lv_cell, e]
    exact ⟨Finset.mem_univ _, hg _ k.isLt hk⟩
  · obtain ⟨k, hk, hp⟩ := oweF_pos h4
    obtain ⟨rfl, e⟩ := tally_pos hp
    rw [L_cell, lv_cell, e]
    exact ⟨Finset.mem_univ _, hh _ k.isLt hk⟩

end Cert.KernelIdeal.Own
end
-- ==== Proof.Ideal.Ops.lean ====
/- The rule of every operation of the body, once for every chunk and every core. -/
module

public import proofs.«01_k».proof.Proof.Ideal.Protocol
public import Idealize.ShloMosaic.Lib.Tactic

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

instance : Fintype CK := Fintype.ofEquiv _ CK.equiv.symm

abbrev 𝒱₀ : Variants := Variants.none

variable (X : Dev nD → S1x8192x2048.Idx → Elt F .f32)

/-- The weakest precondition of a program of core `c`. -/
abbrev W (c : Dev nD) (P : KProg F) (Q : PUnit → sProp 𝕄) : sProp 𝕄 :=
  wp frame (wpE (defs₀ (F := F)) 𝒱₀ (Dev.tc c : Thread nD τ) none) Set.univ P Q

/-! ## What every core knows -/

/-- Every cell's invariant and that its first round is reached. -/
def cellsK (κ : Dev nD × CK → ℕ) : sProp 𝕄 :=
  bigSep Finset.univ fun x : Dev nD × CK => iprop(cellInv ER (Rd X) (κ x) (cell x.1 x.2) ∗ reached ER (cell x.1 x.2) 0)
/-- Every handed-back slot's invariant. -/
def slotsK (ν : Key → ℕ) : sProp 𝕄 := bigSep Finset.univ fun k : Key => Release.slotInv ES (ν k) k (keySlot (F := F) k)
/-- Both, and the levels. -/
def ctx (κ : Dev nD × CK → ℕ) (ν : Key → ℕ) : sProp 𝕄 := iprop(cellsK X κ ∗ slotsK ν ∗ Lev)

instance (κ) : BI.Persistent (cellsK X κ) := by unfold cellsK; infer_instance
instance (ν) : BI.Persistent (slotsK (F := F) ν) := by unfold slotsK; infer_instance
instance (κ ν) : BI.Persistent (ctx X κ ν) := by unfold ctx; infer_instance

variable (κ : Dev nD × CK → ℕ) (ν : Key → ℕ) (c : Dev nD)

theorem ctx_cell (c : Dev nD) (k : CK) : ctx X κ ν ⊢ iprop(cellInv ER (Rd X) (κ (c, k)) (cell c k) ∗ reached ER (cell c k) 0) := by
  have h : cellsK X κ ⊢ iprop(cellInv ER (Rd X) (κ (c, k)) (cell c k) ∗ reached ER (cell c k) 0) := by
    unfold cellsK; exact bigSep_elim (i := (c, k)) (Finset.mem_univ _)
  unfold ctx
  iintro ⟨H, -, -⟩
  iapply h
  iexact H
theorem ctx_slot (k : Key) : ctx X κ ν ⊢ Release.slotInv ES (ν k) k (keySlot (F := F) k) := by
  have h : slotsK ν ⊢ Release.slotInv ES (ν k) k (keySlot (F := F) k) := by
    unfold slotsK; exact bigSep_elim (i := k) (Finset.mem_univ _)
  unfold ctx
  iintro ⟨-, H, -⟩
  iapply h
  iexact H
theorem ctx_lev : ctx X κ ν ⊢ Lev := by
  unfold ctx
  iintro ⟨-, -, H⟩
  iexact H

/-- What the core owes, whatever waits it has made. -/
def Owes (c : Dev nD) (O : CellTallies nD τ sig (Fin 16)) : sProp 𝕄 := iprop(∃ W, owes (Dev.tc c : Thread nD τ) O W)

/-! ## Signals and waits -/

/-- A signal of one unit. -/
theorem w_give (e : Dev nD) (s : Sem sig) (k : CK) (hs : k.sem = .reg s) (ha : amt k = 1) (j : Fin 4) (hj : j ∈ dset k 0) (ι : Fin 16)
    (O : CellTallies nD τ sig (Fin 16)) (K : KProg F) (Q : PUnit → sProp 𝕄) :
    iprop(ctx X κ ν ∗ Owes c (O + tallyAt (cell e k) ι 1) ∗ dutyTok ER (cell e k) 0 j ∗ pay X e k 0 j)
      ⊢ iprop((Owes c O -∗ W c K Q) -∗ W c (give e s K) Q) := by
  have hd : j ∈ (Rd (F := F) X).duties ((Dev.tc e : Thread nD τ), .reg s) 0 := by rw [← hs]; exact (Rd_duties X e k 0).symm ▸ hj
  have hk : (Rd (F := F) X).amount ((Dev.tc e : Thread nD τ), .reg s) 0 j = 1 := by rw [← hs]; exact (Rd_amount X e k 0 j).trans ha
  have hpay : pay X e k 0 j = (Rd X).payload ((Dev.tc e : Thread nD τ), .reg s) 0 j := by rw [← hs]; exact (Rd_payload X e k 0 j).symm
  have hce := ctx_cell X κ ν e k
  unfold cell at hce ⊢
  rw [hs] at hce
  rw [hpay, hs]
  unfold Owes
  iintro ⟨#Hc, ⟨%V, HO⟩, Ht, Hp⟩ HK
  ihave Hce := hce $$ Hc
  icases Hce with ⟨#Hi, #Hr⟩
  iapply (Rounds.wp_signal 𝒱₀ ER (Rd X) (Dev.tc c : Thread nD τ) none hd hk ι O rfl (W := V)) $$ [HO Ht Hp]
  · isplitr; · iexact Hi
    isplitl [HO]; · iexact HO
    isplitl [Ht]; · iexact Ht
    isplitl [Hp]; · iexact Hp
    iexact Hr
  iintro HO
  iapply HK
  iexists V; iexact HO

/-- A wait for the one instalment of a round of a transfer's cell. -/
theorem w_wait {w : TpuEff nD τ sig (Elt F) Λ₀ .tc PUnit} (k : CK) (r : ℕ) (ι : Fin 16) {n : ℕ}
    (hw : ∀ K : PUnit → sProp 𝕄, wpE (defs₀ (F := F)) 𝒱₀ (Dev.tc c : Thread nD τ) none Set.univ w K = waitSpec (Dev.tc c : Thread nD τ) Set.univ k.sem n K)
    (hn : n = amt k) (h1 : dset k r = {0}) (O : CellTallies nD τ sig (Fin 16))
    (hm : Lev ⊢ (MayWait (Dev.tc c : Thread nD τ) k.sem ι O : sProp 𝕄)) (K : KProg F) (Q : PUnit → sProp 𝕄) :
    iprop(ctx X κ ν ∗ Owes c O ∗ cred (tallyAt (cell c k) ι n) ∗ atPos ER (cell c k) r ∅ 0)
      ⊢ iprop(((Owes c O ∗ atPos ER (cell c k) (r + 1) ∅ 0 ∗ reached ER (cell c k) (r + 1) ∗ pay X c k r 0) -∗ W c K Q)
          -∗ W c (.op w fun _ => K) Q) := by
  have hm' : ctx X κ ν ⊢ MayWait (Dev.tc c : Thread nD τ) k.sem ι O := (@ctx_lev F _ X κ ν).trans hm
  unfold Owes
  iintro ⟨#Hc, ⟨%V, HO⟩, Hcr, Hat⟩ HK
  ihave Hce := (ctx_cell X κ ν c k) $$ Hc
  icases Hce with ⟨#Hi, -⟩
  iapply (Rounds.wp_wait_rest_token 𝒱₀ ER (Rd X) (Dev.tc c : Thread nD τ) none hw (Set.mem_univ (κ (c, k))) ι (O := O) (W := V) (R := r) (m := 0) (T := ∅)
    (by rw [Rd_expect X c k r, h1, Finset.card_singleton, one_mul, Nat.zero_add, hn])) $$ [HO Hcr Hat]
  · isplitr; · iexact Hi
    isplitl [Hcr]; · iexact Hcr
    isplitl [HO]; · iexact HO
    isplitr; · iapply hm'; iexact Hc
    iexact Hat
  iintro ⟨HO, Hat, Hr, Hp⟩
  iapply HK
  isplitl [HO]; · iexists _; iexact HO
  isplitl [Hat]; · iexact Hat
  isplitl [Hr]; · iexact Hr
  have e : bigSep ((Rd (F := F) X).duties (cell c k) r \ ∅) (fun d => (Rd X).payload (cell c k) r d) = pay X c k r 0 := by
    rw [Rd_duties, h1, Finset.sdiff_empty, bigSep_singleton, Rd_payload]
  ihave Hp := (Entails.of_eq e) $$ Hp
  iexact Hp

/-- A peer's first `n` signals: how far the core has waited, and the instalments it has taken. -/
def credits (k : CK) (n : ℕ) : sProp 𝕄 :=
  iprop(∃ T : Finset (Fin 4), ⌜n ≤ T.card⌝ ∗ atPos ER (cell c k) 0 T n ∗ bigSep T (fun j => pay X c k 0 j))

theorem credits_zero (k : CK) : atPos ER (cell c k) 0 ∅ 0 ⊢ credits X c k 0 := by
  unfold credits
  iintro H
  iexists ∅
  isplitr; · ipureintro; exact Nat.zero_le _
  isplitl; · iexact H
  rw [bigSep_empty]; iempintro

/-- A wait for one of a peer's four signals: by the count, one of the taken ones is the `n`-th or later. -/
theorem w_take (s : Sem sig) (k : CK) (hs : k.sem = .reg s) (hk : k = .xcr ∨ k = .ycr) (n : Fin 4) (O : CellTallies nD τ sig (Fin 16))
    (hm : Lev ⊢ (MayWait (Dev.tc c : Thread nD τ) k.sem ⟨n.val, by omega⟩ O : sProp 𝕄))
    [hp : ∀ j, BI.Persistent (pay X c k 0 j)] (K : KProg F) (Q : PUnit → sProp 𝕄) :
    iprop(ctx X κ ν ∗ Owes c O ∗ cred (tallyAt (cell c k) ⟨n.val, by omega⟩ 1) ∗ credits X c k n.val)
      ⊢ iprop(((Owes c O ∗ credits X c k (n.val + 1) ∗ (∃ j : Fin 4, ⌜n.val ≤ j.val⌝ ∗ pay X c k 0 j)) -∗ W c K Q)
          -∗ W c (take s 1#32 K) Q) := by
  have hd : dset k 0 = Finset.univ := by rcases hk with rfl | rfl <;> rfl
  have ha : amt k = 1 := by rcases hk with rfl | rfl <;> rfl
  have hm' : ctx X κ ν ⊢ MayWait (Dev.tc c : Thread nD τ) k.sem ⟨n.val, by omega⟩ O := (@ctx_lev F _ X κ ν).trans hm
  unfold Owes credits
  iintro ⟨#Hc, ⟨%V, HO⟩, Hcr, ⟨%T, %hT, Hat, Hpay⟩⟩ HK
  ihave Hce := (ctx_cell X κ ν c k) $$ Hc
  icases Hce with ⟨#Hi, -⟩
  iapply (Rounds.wp_wait 𝒱₀ ER (Rd X) (Dev.tc c : Thread nD τ) none (w := .semWait s (1#32).toInt) (sm := k.sem) (k' := 1)
    (fun K => by rw [hs]; exact wpE_semWait_eq 𝒱₀ (Dev.tc c : Thread nD τ) none Set.univ K) (Set.mem_univ (κ (c, k)))
    (cr := Finsupp.single ⟨n.val, by omega⟩ 1) (O := O) (W := V) {(k.sem, (⟨n.val, by omega⟩ : Fin 16))} (R := 0) (m := n.val) (T := T)
    (Finsupp.sum_single_index rfl) (by rw [Finsupp.support_single_ne_zero _ (by decide), Finset.image_singleton])) $$ [HO Hcr Hat]
  · isplitr; · iexact Hi
    isplitl [Hcr]; · iexact Hcr
    isplitl [HO]; · iexact HO
    isplitr; · iapply hm'; iexact Hc
    iexact Hat
  iintro %S ⟨%hS, HO, Hat, Hp⟩
  obtain ⟨hTS, hSd, hle⟩ := hS
  rw [Rd_duties, Rd_expect, hd, ha] at hle
  have hcard : n.val + 1 ≤ S.card := by
    have := Finset.card_sdiff_add_card_eq_card (Finset.subset_univ S)
    rw [Finset.card_univ, Fintype.card_fin] at this hle
    omega
  have hex : ∃ j ∈ S, n.val ≤ j.val := by
    by_contra hn
    have hn : ∀ j ∈ S, j.val < n.val := fun j hj => by by_contra h; exact hn ⟨j, hj, by omega⟩
    have h1 : S ⊆ Finset.univ.filter fun j : Fin 4 => j.val < n.val := fun j hj => Finset.mem_filter.mpr ⟨Finset.mem_univ _, hn j hj⟩
    have h2 := Finset.card_le_card h1
    have h3 : (Finset.univ.filter fun j : Fin 4 => j.val < n.val).card = n.val := (by decide : ∀ n : Fin 4, (Finset.univ.filter fun j : Fin 4 => j.val < n.val).card = n.val) n
    omega
  obtain ⟨j, hj, hnj⟩ := hex
  iapply HK
  isplitl [HO]; · iexists _; iexact HO
  have e : bigSep (S \ T) (fun d => (Rd X).payload (cell c k) 0 d) = bigSep (S \ T) (fun d => pay X c k 0 d) :=
    bigSep_congr fun d _ => Rd_payload X c k 0 d
  ihave Hp := (Entails.of_eq e) $$ Hp
  have eS : bigSep S (fun d => pay X c k 0 d) = iprop(bigSep T (fun d => pay X c k 0 d) ∗ bigSep (S \ T) (fun d => pay X c k 0 d)) := by rw [bigSep_sdiff_split hTS]; rfl
  ihave #HS := (Entails.of_eq eS.symm) $$ [Hpay Hp]
  · isplitl [Hpay] <;> iassumption
  isplitl [Hat]
  · iexists S
    isplitr; · ipureintro; exact hcard
    isplitl; · iexact Hat
    iexact HS
  iexists j
  isplitr; · ipureintro; exact hnj
  have hel : bigSep S (fun d => pay X c k 0 d) ⊢ pay X c k 0 j := bigSep_elim hj
  iapply hel
  iexact HS

/-- Having waited for all four, the core is past the cell's round. -/
theorem credits_all (k : CK) (hk : k = .xcr ∨ k = .ycr) :
    iprop(ctx X κ ν ∗ credits X c k 4) ⊢ iprop(|={Set.univ}=> atPos ER (cell c k) 1 ∅ 0) := by
  have hd : dset k 0 = Finset.univ := by rcases hk with rfl | rfl <;> rfl
  have ha : amt k = 1 := by rcases hk with rfl | rfl <;> rfl
  unfold credits
  iintro ⟨#Hc, ⟨%T, %hT, Hat, -⟩⟩
  ihave Hce := (ctx_cell X κ ν c k) $$ Hc
  icases Hce with ⟨#Hi, -⟩
  have hTu : T = Finset.univ := Finset.eq_univ_of_card T (le_antisymm (Finset.card_le_univ T) (by rw [Fintype.card_fin]; exact hT))
  imod (Rounds.fupd_skip ER (Rd X) (κ := κ (c, k)) (g := cell c k) (R := 0) (m := 4) (T := T) (by rw [hTu]; exact Finset.subset_univ _)
    (by rw [Rd_expect, hd, ha]; rfl) (Set.mem_univ _)) $$ [Hat] with ⟨Hat, -⟩
  · isplitr; · iexact Hi
    iexact Hat
  imodintro
  iexact Hat

/-- A slot's hand-back told by a later signal. -/
theorem facts_at (e : Dev nD) (b : Bool) (i : Fin 4) {n : ℕ} (h : i.val < n) : facts (F := F) e b n ⊢ fact (F := F) e b i := by
  unfold facts iv
  exact bigSep_elim (Φ := fact (F := F) e b) (Finset.mem_filter.mpr ⟨Finset.mem_univ _, Nat.zero_le _, h⟩)

end Cert.KernelIdeal.Own
end
-- ==== Proof.Ideal.Moves.lean ====
/- The rule of every transfer, wait, load and store of the body, once for every chunk and every core. -/
module

public import proofs.«01_k».proof.Proof.Ideal.Ops
public import Idealize.ShloMosaic.Lib.Exec.Context

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (X : Dev nD → S1x8192x2048.Idx → Elt F .f32) (κ : Dev nD × CK → ℕ) (ν : Key → ℕ) (c : Dev nD)

/-! ## Owned memory, as the operations address it -/

theorem xP_src (k : Fin 16) : xP X c k.val = (((xsrc c k).view.loc (Dev.tc c)) ↦[(xsrc c k).view.set]{fullShare} (X c : Buf (Elt F) ((xsrc c k).view.loc (Dev.tc c))) : sProp 𝕄) := by
  rw [set_xsrc]; rfl
theorem xP_own : xP X c 16 = (((xown c).view.loc (Dev.tc c)) ↦[(xown c).view.set]{fullShare} (X c : Buf (Elt F) ((xown c).view.loc (Dev.tc c))) : sProp 𝕄) := by
  rw [set_xown]; rfl
theorem xsP_slot (s : Fin 12) (q : PosShare TreeShare) (f : S12x256x1024.Idx → Elt F .f32) :
    xsP c s.val q f = (((xslot s).view.loc (Dev.tc c)) ↦[(xslot s).view.set]{q} (f : Buf (Elt F) ((xslot s).view.loc (Dev.tc c))) : sProp 𝕄) := by
  rw [set_xslot]; rfl
theorem ysP_slot (s : Fin 12) (q : PosShare TreeShare) (f : S12x256x1024.Idx → Elt F .f32) :
    ysP c s.val q f = (((yslot s).view.loc (Dev.tc c)) ↦[(yslot s).view.set]{q} (f : Buf (Elt F) ((yslot s).view.loc (Dev.tc c))) : sProp 𝕄) := by
  rw [set_yslot]; rfl
theorem xsP_congr (s : Fin 12) (q : PosShare TreeShare) {f g : S12x256x1024.Idx → Elt F .f32} (h : ∀ i ∈ (xslot s).view.set, f i = g i) :
    xsP c s.val q f = xsP c s.val q g := by
  rw [xsP_slot, xsP_slot]; exact pointsTo_congr h
theorem ysP_congr (s : Fin 12) (q : PosShare TreeShare) {f g : S12x256x1024.Idx → Elt F .f32} (h : ∀ i ∈ (yslot s).view.set, f i = g i) :
    ysP c s.val q f = ysP c s.val q g := by
  rw [ysP_slot, ysP_slot]; exact pointsTo_congr h

/-! ## The transfers between cores -/

theorem dset_xrecv (k : Fin 16) : dset (.xrecv (slot k)) (k.val / 12) = {0} := by revert k; decide
theorem dset_yrecv (k : Fin 16) : dset (.yrecv (slot k)) (k.val / 12) = {0} := by revert k; decide
theorem slot_chunk (k : Fin 16) : (slot k).val + 12 * (k.val / 12) = k.val := Nat.mod_add_div _ _

theorem pay_xrecv (e : Dev nD) (k : Fin 16) : pay X e (.xrecv (slot k)) (k.val / 12) 0 = xsP e (slot k).val fullShare (xin X e k.val) := by
  show xsP e (slot k).val fullShare (xin X e ((slot k).val + 12 * (k.val / 12))) = _
  rw [slot_chunk]
theorem pay_yrecv (e : Dev nD) (k : Fin 16) : pay X e (.yrecv (slot k)) (k.val / 12) 0 = ysP e (slot k).val fullShare (yin X e k.val) := by
  show ysP e (slot k).val fullShare (yin X e ((slot k).val + 12 * (k.val / 12))) = _
  rw [slot_chunk]

/-- Sending a chunk of the argument to the partner. -/
theorem w_sendX (k : Fin 16) (O : CellTallies nD τ sig (Fin 16)) (K : KProg F) (Q : PUnit → sProp 𝕄) :
    iprop(ctx X κ ν ∗ Owes c (O + tX c k) ∗ dutyTok ER (cell (px c) (.xrecv (slot k))) (k.val / 12) 0 ∗ reached ER (cell (px c) (.xrecv (slot k))) (k.val / 12)
        ∗ dutyTok ER (cell c (.xsend k)) 0 0 ∗ xP X c k.val ∗ xsA (px c) (slot k).val)
      ⊢ iprop(((Owes c O ∗ cred (tallyAt (cell c (.xsend k)) 0 N)) -∗ W c K Q) -∗ W c (sendX c k K) Q) := by
  unfold Owes xsA sendX
  iintro ⟨#Hc, ⟨%V, HO⟩, Ht2, #Hr2, Ht1, Hx, ⟨%fd, Hd⟩⟩ HK
  ihave Hce := (ctx_cell X κ ν c (.xsend k)) $$ Hc
  icases Hce with ⟨#Hi1, #Hr1⟩
  ihave Hce := (ctx_cell X κ ν (px c) (.xrecv (slot k))) $$ Hc
  icases Hce with ⟨#Hi2, -⟩
  ihave Hx := (Entails.of_eq (xP_src X c k)) $$ Hx
  ihave Hd := (Entails.of_eq (xsP_slot (px c) (slot k) fullShare fd)) $$ Hd
  iapply (Rounds.wp_send_pointsTo 𝒱₀ ER (Rd X) (Dev.tc c : Thread nD τ) none (c' := Dev.tc (px c)) (κ₁ := κ (c, .xsend k)) (κ₂ := κ (px c, .xrecv (slot k)))
    (src := xsrc c k) (dst := xslot (slot k)) (sS := .dma (xsendS k)) (sem := .dma (xrecvS (slot k))) (r₁ := 0) (r₂ := k.val / 12) (d₁ := 0) (d₂ := 0)
    (by rw [show (((Dev.tc c : Thread nD τ), SemLoc.dma (xsendS k)) : GSem nD τ sig) = cell c (.xsend k) from rfl, Rd_duties]; exact Finset.mem_singleton_self _)
    (by rw [show (((Dev.tc (px c) : Thread nD τ), SemLoc.dma (xrecvS (slot k))) : GSem nD τ sig) = cell (px c) (.xrecv (slot k)) from rfl, Rd_duties, dset_xrecv]; exact Finset.mem_singleton_self _)
    k 0 N rfl (Rd_amount X c (.xsend k) 0 0) (Rd_amount X (px c) (.xrecv (slot k)) _ 0) O rfl (W := V) ?_ ?_) $$ [HO Ht1 Ht2 Hx Hd]
  · refine (Entails.of_eq (xP_src X c k).symm).trans ?_
    exact Entails.of_eq (Rd_payload X c (.xsend k) 0 0).symm
  · refine (Entails.of_eq (xsP_slot (px c) (slot k) fullShare _).symm).trans ?_
    exact Entails.of_eq ((xsP_congr (px c) (slot k) fullShare fun i hi => land_x X c k (slot k) fd i hi).trans ((Rd_payload X (px c) (.xrecv (slot k)) (k.val / 12) 0).trans (pay_xrecv X (px c) k)).symm)
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply HK
  isplitl [HO]; · iexists V; iexact HO
  iexact Hcr

/-- Forwarding a received chunk to the buddy, from half of its slot. -/
theorem w_sendY (k : Fin 16) (O : CellTallies nD τ sig (Fin 16)) (K : KProg F) (Q : PUnit → sProp 𝕄) :
    iprop(ctx X κ ν ∗ Owes c (O + tY c k) ∗ dutyTok ER (cell (py c) (.yrecv (slot k))) (k.val / 12) 0 ∗ reached ER (cell (py c) (.yrecv (slot k))) (k.val / 12)
        ∗ dutyTok ER (cell c (.ysend k)) 0 0 ∗ xsP c (slot k).val qL (xin X c k.val) ∗ ysA (py c) (slot k).val)
      ⊢ iprop(((Owes c O ∗ cred (tallyAt (cell c (.ysend k)) 0 N)) -∗ W c K Q) -∗ W c (sendY c k K) Q) := by
  unfold Owes ysA sendY
  iintro ⟨#Hc, ⟨%V, HO⟩, Ht2, #Hr2, Ht1, Hx, ⟨%fd, Hd⟩⟩ HK
  ihave Hce := (ctx_cell X κ ν c (.ysend k)) $$ Hc
  icases Hce with ⟨#Hi1, #Hr1⟩
  ihave Hce := (ctx_cell X κ ν (py c) (.yrecv (slot k))) $$ Hc
  icases Hce with ⟨#Hi2, -⟩
  ihave Hx := (Entails.of_eq (xsP_slot c (slot k) qL (xin X c k.val))) $$ Hx
  ihave Hd := (Entails.of_eq (ysP_slot (py c) (slot k) fullShare fd)) $$ Hd
  iapply (Rounds.wp_send_pointsTo 𝒱₀ ER (Rd X) (Dev.tc c : Thread nD τ) none (c' := Dev.tc (py c)) (κ₁ := κ (c, .ysend k)) (κ₂ := κ (py c, .yrecv (slot k)))
    (src := xslot (slot k)) (dst := yslot (slot k)) (sS := .dma (ysendS k)) (sem := .dma (yrecvS (slot k))) (r₁ := 0) (r₂ := k.val / 12) (d₁ := 0) (d₂ := 0)
    (by rw [show (((Dev.tc c : Thread nD τ), SemLoc.dma (ysendS k)) : GSem nD τ sig) = cell c (.ysend k) from rfl, Rd_duties]; exact Finset.mem_singleton_self _)
    (by rw [show (((Dev.tc (py c) : Thread nD τ), SemLoc.dma (yrecvS (slot k))) : GSem nD τ sig) = cell (py c) (.yrecv (slot k)) from rfl, Rd_duties, dset_yrecv]; exact Finset.mem_singleton_self _)
    k 0 N rfl (Rd_amount X c (.ysend k) 0 0) (Rd_amount X (py c) (.yrecv (slot k)) _ 0) O rfl (W := V) ?_ ?_) $$ [HO Ht1 Ht2 Hx Hd]
  · refine (Entails.of_eq (xsP_slot c (slot k) qL (xin X c k.val)).symm).trans ?_
    exact Entails.of_eq (Rd_payload X c (.ysend k) 0 0).symm
  · refine (Entails.of_eq (ysP_slot (py c) (slot k) fullShare _).symm).trans ?_
    exact Entails.of_eq ((ysP_congr (py c) (slot k) fullShare fun i hi => land_y X c k (slot k) fd i hi).trans ((Rd_payload X (py c) (.yrecv (slot k)) (k.val / 12) 0).trans (pay_yrecv X (py c) k)).symm)
  · isplitr; · iexact Hi1
    isplitr; · iexact Hi2
    isplitl [Hx]; · iexact Hx
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply HK
  isplitl [HO]; · iexists V; iexact HO
  iexact Hcr

/-! ## The local copies -/

/-- A local copy whose landing is the one instalment of the cell of kind `k`. -/
theorem w_copy {sp sp' : Space} {s : Shape} {e : EltTy} {src : Memref sig (Dev.tc c : Thread nD τ).2.kind sp s e} {dst : Memref sig (Dev.tc c : Thread nD τ).2.kind sp' s e} {sem : DmaSem sig}
    {hsrc : src.view.WordExact} {hdst : dst.view.WordExact} {hsem : DmaTarget.Typed (nD := nD) sp (.dma sem) (.here dst)}
    (k : CK) (hs : k.sem = .dma sem) (h1 : dset k 0 = {0}) (hn : dst.view.dmaCredit = amt k)
    {fs : Buf (Elt F) (src.view.loc (Dev.tc c))} {fd : Buf (Elt F) (dst.view.loc (Dev.tc c))}
    (hpay : iprop((dst.view.loc (Dev.tc c) ↦[dst.view.set]{fullShare} (dst.view.write (Elt F) fd (src.view.read (Elt F) fs) Finset.univ))
              ∗ (src.view.loc (Dev.tc c) ↦[src.view.set]{fullShare} fs)) ⊢ pay X c k 0 0) (K : KProg F) (Q : PUnit → sProp 𝕄) :
    iprop(ctx X κ ν ∗ (src.view.loc (Dev.tc c) ↦[src.view.set]{fullShare} fs) ∗ (dst.view.loc (Dev.tc c) ↦[dst.view.set]{fullShare} fd)
        ∗ dutyTok ER (cell c k) 0 0)
      ⊢ iprop((cred (tallyAt (cell c k) 0 (amt k)) -∗ W c K Q) -∗ W c (.op (.enqueueDma src (.here dst) (.dma sem) hsrc hdst hsem) fun _ => K) Q) := by
  have hd : (0 : Fin 4) ∈ (Rd (F := F) X).duties ((Dev.tc c : Thread nD τ), .dma sem) 0 := by
    rw [← hs]; exact (Rd_duties X c k 0).symm ▸ h1 ▸ Finset.mem_singleton_self _
  have hk : (Rd (F := F) X).amount ((Dev.tc c : Thread nD τ), .dma sem) 0 0 = amt k := by rw [← hs]; exact Rd_amount X c k 0 0
  have hp : pay X c k 0 0 = (Rd X).payload ((Dev.tc c : Thread nD τ), .dma sem) 0 0 := by rw [← hs]; exact (Rd_payload X c k 0 0).symm
  have hce := ctx_cell X κ ν c k
  rw [hp] at hpay
  unfold cell at hce ⊢
  rw [hs] at hce ⊢
  iintro ⟨#Hc, Hx, Hd, Ht⟩ HK
  ihave Hce := hce $$ Hc
  icases Hce with ⟨#Hi, #Hr⟩
  iapply (Rounds.wp_copy_pointsTo 𝒱₀ ER (Rd X) (Dev.tc c : Thread nD τ) none hd 0 (amt k) hn hk hpay) $$ [Hx Hd Ht]
  · isplitr; · iexact Hi
    isplitl [Hx]; · iexact Hx
    isplitl [Hd]; · iexact Hd
    isplitl [Ht]; · iexact Ht
    iexact Hr
  iexact HK

theorem accP_X (k : Fin 16) (f : S8192x1024.Idx → Elt F .f32) : accP c (bx c k.val) f
    = (((accM.slice (rowX' c k) (fun _ => rfl)).view.loc (Dev.tc c)) ↦[(accM.slice (rowX' c k) (fun _ => rfl)).view.set]{fullShare} (f : Buf (Elt F) ((accM.slice (rowX' c k) (fun _ => rfl)).view.loc (Dev.tc c))) : sProp 𝕄) := by
  rw [set_accX']; rfl
theorem accP_Y (k : Fin 16) (f : S8192x1024.Idx → Elt F .f32) : accP c (byy c k.val) f
    = (((accM.slice (rowY' c k) (fun _ => rfl)).view.loc (Dev.tc c)) ↦[(accM.slice (rowY' c k) (fun _ => rfl)).view.set]{fullShare} (f : Buf (Elt F) ((accM.slice (rowY' c k) (fun _ => rfl)).view.loc (Dev.tc c))) : sProp 𝕄) := by
  rw [set_accY']; rfl
theorem outP_X (k : Fin 16) (f : S8192x1024.Idx → Elt F .f32) : outP c (bx c k.val) f
    = (((outM.slice (rowX' c k) (fun _ => rfl)).view.loc (Dev.tc c)) ↦[(outM.slice (rowX' c k) (fun _ => rfl)).view.set]{fullShare} (f : Buf (Elt F) ((outM.slice (rowX' c k) (fun _ => rfl)).view.loc (Dev.tc c))) : sProp 𝕄) := by
  rw [set_outX']; rfl
theorem outP_Y (k : Fin 16) (f : S8192x1024.Idx → Elt F .f32) : outP c (byy c k.val) f
    = (((outM.slice (rowY' c k) (fun _ => rfl)).view.loc (Dev.tc c)) ↦[(outM.slice (rowY' c k) (fun _ => rfl)).view.set]{fullShare} (f : Buf (Elt F) ((outM.slice (rowY' c k) (fun _ => rfl)).view.loc (Dev.tc c))) : sProp 𝕄) := by
  rw [set_outY']; rfl

/-- A band's copy out is as many units as a chunk's transfer. -/
theorem credit_X (k : Fin 16) : (outM.slice (rowX' c k) (fun _ => rfl)).view.dmaCredit = amt (.xout k) := by
  show _ = N
  exact View.dmaCredit_closed _ S256x1024 rfl main_v1.idx rfl _ (by decide +kernel)
theorem credit_Y (k : Fin 16) : (outM.slice (rowY' c k) (fun _ => rfl)).view.dmaCredit = amt (.yout k) := by
  show _ = N
  exact View.dmaCredit_closed _ S256x1024 rfl main_v1.idx rfl _ (by decide +kernel)

/-- Copying out a finished band of the partner's row half, -/
theorem w_flushX (k : Fin 16) (K : KProg F) (Q : PUnit → sProp 𝕄) :
    iprop(ctx X κ ν ∗ accP c (bx c k.val) (fin X c) ∗ outA c (bx c k.val) ∗ dutyTok ER (cell c (.xout k)) 0 0)
      ⊢ iprop((cred (tallyAt (cell c (.xout k)) 0 N) -∗ W c K Q) -∗ W c (flushX c k K) Q) := by
  have hw (fd : S8192x1024.Idx → Elt F .f32) : (((outM.slice (rowX' c k) (fun _ => rfl)).view.loc (Dev.tc c)) ↦[(outM.slice (rowX' c k) (fun _ => rfl)).view.set]{fullShare}
      ((outM.slice (rowX' c k) (fun _ => rfl)).view.write (Elt F) fd ((accM.slice (rowX' c k) (fun _ => rfl)).view.read (Elt F) (fin X c)) Finset.univ) : sProp 𝕄)
      ⊢ outP c (bx c k.val) (fin X c) := by
    rw [outP_X]
    exact Entails.of_eq (pointsTo_congr fun i hi => land_outX c k fd (fin X c) i hi)
  unfold outA flushX
  iintro ⟨#Hc, Hx, ⟨%fd, Hd⟩, Ht⟩ HK
  ihave Hx := (Entails.of_eq (accP_X c k (fin X c))) $$ Hx
  ihave Hd := (Entails.of_eq (outP_X c k fd)) $$ Hd
  iapply (w_copy X κ ν c (.xout k) rfl rfl (credit_X c k) (src := accM.slice (rowX' c k) (fun _ => rfl)) (dst := outM.slice (rowX' c k) (fun _ => rfl))
    (fs := (fin X c : Buf (Elt F) (accL c))) (fd := fd)
    (BIClass.sep_mono (hw fd) (Entails.of_eq (accP_X c k (fin X c)).symm))) $$ [Hx Hd Ht]
  · isplitr; · iexact Hc
    isplitl [Hx]; · iexact Hx
    isplitl [Hd]; · iexact Hd
    iexact Ht
  iexact HK
/-- and of the buddy's. -/
theorem w_flushY (k : Fin 16) (K : KProg F) (Q : PUnit → sProp 𝕄) :
    iprop(ctx X κ ν ∗ accP c (byy c k.val) (fin X c) ∗ outA c (byy c k.val) ∗ dutyTok ER (cell c (.yout k)) 0 0)
      ⊢ iprop((cred (tallyAt (cell c (.yout k)) 0 N) -∗ W c K Q) -∗ W c (flushY c k K) Q) := by
  have hw (fd : S8192x1024.Idx → Elt F .f32) : (((outM.slice (rowY' c k) (fun _ => rfl)).view.loc (Dev.tc c)) ↦[(outM.slice (rowY' c k) (fun _ => rfl)).view.set]{fullShare}
      ((outM.slice (rowY' c k) (fun _ => rfl)).view.write (Elt F) fd ((accM.slice (rowY' c k) (fun _ => rfl)).view.read (Elt F) (fin X c)) Finset.univ) : sProp 𝕄)
      ⊢ outP c (byy c k.val) (fin X c) := by
    rw [outP_Y]
    exact Entails.of_eq (pointsTo_congr fun i hi => land_outY c k fd (fin X c) i hi)
  unfold outA flushY
  iintro ⟨#Hc, Hx, ⟨%fd, Hd⟩, Ht⟩ HK
  ihave Hx := (Entails.of_eq (accP_Y c k (fin X c))) $$ Hx
  ihave Hd := (Entails.of_eq (outP_Y c k fd)) $$ Hd
  iapply (w_copy X κ ν c (.yout k) rfl rfl (credit_Y c k) (src := accM.slice (rowY' c k) (fun _ => rfl)) (dst := outM.slice (rowY' c k) (fun _ => rfl))
    (fs := (fin X c : Buf (Elt F) (accL c))) (fd := fd)
    (BIClass.sep_mono (hw fd) (Entails.of_eq (accP_Y c k (fin X c)).symm))) $$ [Hx Hd Ht]
  · isplitr; · iexact Hc
    isplitl [Hx]; · iexact Hx
    isplitl [Hd]; · iexact Hd
    iexact Ht
  iexact HK

/-- Copying the kept column half into the accumulator. -/
theorem w_startOwn (K : KProg F) (Q : PUnit → sProp 𝕄) :
    iprop(ctx X κ ν ∗ xP X c 16 ∗ (∃ f : Buf (Elt F) (accL c), (accL c) ↦{fullShare} f) ∗ dutyTok ER (cell c .loc) 0 0)
      ⊢ iprop((cred (tallyAt (cell c .loc) 0 NL) -∗ W c K Q) -∗ W c (startOwn c K) Q) := by
  have hset : accM.view.set = Finset.univ := View.set_whole _
  have hw (fd : Buf (Elt F) (accL c)) : (((accM.view.loc (Dev.tc c)) ↦[accM.view.set]{fullShare} (accM.view.write (Elt F) fd ((xown c).view.read (Elt F) (X c)) Finset.univ)) : sProp 𝕄)
      ⊢ ((accL c) ↦{fullShare} (own X c : Buf (Elt F) (accL c))) := by
    rw [hset]
    exact Entails.of_eq (pointsTo_congr fun i _ => land_own X c fd i)
  unfold startOwn
  iintro ⟨#Hc, Hx, ⟨%fd, Hd⟩, Ht⟩ HK
  ihave Hx := (Entails.of_eq (xP_own X c)) $$ Hx
  iapply (w_copy X κ ν c .loc rfl rfl rfl (src := xown c) (dst := accM) (fs := (X c : Buf (Elt F) (xL c))) (fd := fd)
    (BIClass.sep_mono (hw fd) (Entails.of_eq (xP_own X c).symm))) $$ [Hx Hd Ht]
  · isplitr; · iexact Hc
    isplitl [Hx]; · iexact Hx
    isplitl [Hd]; · rw [hset]; iexact Hd
    iexact Ht
  iexact HK

/-! ## The additions -/

/-- Adding the partner's chunk, from the kept half of its slot. -/
theorem w_addX (k : Fin 16) (K : KProg F) (Q : PUnit → sProp 𝕄) :
    iprop(accP c (bx c k.val) (own X c) ∗ xsP c (slot k).val qR (xin X c k.val))
      ⊢ iprop(((accP c (bx c k.val) (fin X c) ∗ xsP c (slot k).val qR (xin X c k.val)) -∗ W c K Q) -∗ W c (addX c k K) Q) := by
  have ha := set_accX c k
  have hx := set_xcR (slot k)
  unfold addX accP xsP
  iintro ⟨Ha, Hx⟩ HK
  iapply (wp_load_rect 𝒱₀ (Dev.tc c : Thread nD τ) none Set.univ ha.le) $$ Ha
  iintro Ha
  iapply (wp_load_rect 𝒱₀ (Dev.tc c : Thread nD τ) none Set.univ hx.le) $$ Hx
  iintro Hx
  iapply (wp_load_rect 𝒱₀ (Dev.tc c : Thread nD τ) none Set.univ ha.le) $$ Ha
  iintro Ha
  iapply (wp_store 𝒱₀ (Dev.tc c : Thread nD τ) none Set.univ (show (accM.access (rowX c k)).set = _ from ha).le) $$ Ha
  iintro Ha
  iapply HK
  isplitl [Ha]
  · have e : (((accL c) ↦[band (bx c k.val)]{fullShare} ((accM.access (rowX c k)).write (Elt F) (own X c)
        (addPay ((accM.access (rowX c k)).read (Elt F) (own X c)) ((xcM.access (slotR (slot k))).read (Elt F) (xin X c k.val))) Finset.univ : Buf (Elt F) (accL c))) : sProp 𝕄)
        = (accL c) ↦[band (bx c k.val)]{fullShare} (fin X c : Buf (Elt F) (accL c)) :=
      pointsTo_congr fun i hi => store_x X c k (slot k) i (ha.symm ▸ hi)
    ihave Ha := (Entails.of_eq e) $$ Ha
    iexact Ha
  iexact Hx

/-- Adding the buddy's chunk. -/
theorem w_addY (k : Fin 16) (K : KProg F) (Q : PUnit → sProp 𝕄) :
    iprop(accP c (byy c k.val) (own X c) ∗ ysP c (slot k).val fullShare (yin X c k.val))
      ⊢ iprop(((accP c (byy c k.val) (fin X c) ∗ ysP c (slot k).val fullShare (yin X c k.val)) -∗ W c K Q) -∗ W c (addY c k K) Q) := by
  have ha := set_accY c k
  have hx := set_ycR (slot k)
  unfold addY accP ysP
  iintro ⟨Ha, Hx⟩ HK
  iapply (wp_load_rect 𝒱₀ (Dev.tc c : Thread nD τ) none Set.univ ha.le) $$ Ha
  iintro Ha
  iapply (wp_load_rect 𝒱₀ (Dev.tc c : Thread nD τ) none Set.univ hx.le) $$ Hx
  iintro Hx
  iapply (wp_load_rect 𝒱₀ (Dev.tc c : Thread nD τ) none Set.univ ha.le) $$ Ha
  iintro Ha
  iapply (wp_store 𝒱₀ (Dev.tc c : Thread nD τ) none Set.univ (show (accM.access (rowY c k)).set = _ from ha).le) $$ Ha
  iintro Ha
  iapply HK
  isplitl [Ha]
  · have e : (((accL c) ↦[band (byy c k.val)]{fullShare} ((accM.access (rowY c k)).write (Elt F) (own X c)
        (addPay ((accM.access (rowY c k)).read (Elt F) (own X c)) ((ycM.access (slotR (slot k))).read (Elt F) (yin X c k.val))) Finset.univ : Buf (Elt F) (accL c))) : sProp 𝕄)
        = (accL c) ↦[band (byy c k.val)]{fullShare} (fin X c : Buf (Elt F) (accL c)) :=
      pointsTo_congr fun i hi => store_y X c k (slot k) i (ha.symm ▸ hi)
    ihave Ha := (Entails.of_eq e) $$ Ha
    iexact Ha
  iexact Hx

end Cert.KernelIdeal.Own
end
-- ==== Proof.Ideal.Waits.lean ====
/- The waits of the body, each with the levels that order it. -/
module

public import proofs.«01_k».proof.Proof.Ideal.Moves

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (X : Dev nD → S1x8192x2048.Idx → Elt F .f32) (κ : Dev nD × CK → ℕ) (ν : Key → ℕ) (c : Dev nD)

/-- A cell nobody else signals is waited on below everything owed. -/
theorem may_low (s : CK) (hs : ∀ n, lvK s n = 0) (ι : Fin 16) (a b g h : ℕ) :
    Lev ⊢ (MayWait (Dev.tc c : Thread nD τ) s.sem ι (owe c a b g h) : sProp 𝕄) := by
  refine mayWait c s ι ?_ ?_ ?_ ?_ <;> intro k hk _ <;> rw [hs] <;> simp only [lvK] <;> (try split_ifs) <;> omega

theorem credit_src (k : Fin 16) : (xsrc c k).view.dmaCredit = N :=
  View.dmaCredit_closed _ S256x1024 rfl main_arg0.idx rfl _ (by decide +kernel)

/-- A wait on a transfer's cell. -/
theorem w_dma {sp sp' : Space} {s s' : Shape} {e e' : EltTy} {sem : DmaSem sig}
    {src : Memref sig (Dev.tc c : Thread nD τ).2.kind sp' s' e'} {dst : Memref sig (Dev.tc c : Thread nD τ).2.kind sp s e} {hsrc : src.view.WordExact} {hdst : dst.view.WordExact}
    (k : CK) (hs : k.sem = .dma sem) (r : ℕ) (ι : Fin 16) (n : ℕ) (hn : dst.view.dmaCredit = n) (ha : n = amt k) (h1 : dset k r = {0}) (O : CellTallies nD τ sig (Fin 16))
    (hm : Lev ⊢ (MayWait (Dev.tc c : Thread nD τ) k.sem ι O : sProp 𝕄)) (K : KProg F) (Q : PUnit → sProp 𝕄) :
    iprop(ctx X κ ν ∗ Owes c O ∗ cred (tallyAt (cell c k) ι n) ∗ atPos ER (cell c k) r ∅ 0)
      ⊢ iprop(((Owes c O ∗ atPos ER (cell c k) (r + 1) ∅ 0 ∗ reached ER (cell c k) (r + 1) ∗ pay X c k r 0) -∗ W c K Q)
          -∗ W c (.op (.waitDma2 sem src dst hsrc hdst) fun _ => K) Q) := by
  have hw : ∀ K : PUnit → sProp 𝕄, wpE (defs₀ (F := F)) 𝒱₀ (Dev.tc c : Thread nD τ) none Set.univ (.waitDma2 sem src dst hsrc hdst) K
      = waitSpec (Dev.tc c : Thread nD τ) Set.univ k.sem n K := by
    intro K; rw [hs, ← hn]; exact wpE_waitDma2_eq 𝒱₀ (Dev.tc c : Thread nD τ) none Set.univ K
  exact w_wait X κ ν c k r ι hw ha h1 O hm K Q

/-- The wait for the copy into the accumulator. -/
theorem w_waitOwn (a b g h : ℕ) (K : KProg F) (Q : PUnit → sProp 𝕄) :
    iprop(ctx X κ ν ∗ Owes c (owe c a b g h) ∗ cred (tallyAt (cell c .loc) 0 NL) ∗ atPos ER (cell c .loc) 0 ∅ 0)
      ⊢ iprop(((Owes c (owe c a b g h) ∗ atPos ER (cell c .loc) 1 ∅ 0 ∗ ((accL c) ↦{fullShare} (own X c : Buf (Elt F) (accL c))) ∗ xP X c 16) -∗ W c K Q)
          -∗ W c (waitOwn c K) Q) := by
  unfold waitOwn
  iintro H HK
  iapply (w_dma X κ ν c (dst := accM) .loc rfl 0 0 NL rfl rfl rfl _ (may_low c .loc (fun _ => rfl) 0 a b g h)) $$ H
  iintro ⟨HO, Hat, -, Hp⟩
  unfold pay
  iapply HK
  isplitl [HO]; · iexact HO
  isplitl [Hat]; · iexact Hat
  iexact Hp

/-- The wait until a forwarded chunk has been read. -/
theorem w_sentY (k : Fin 16) (a b g h : ℕ) (K : KProg F) (Q : PUnit → sProp 𝕄) :
    iprop(ctx X κ ν ∗ Owes c (owe c a b g h) ∗ cred (tallyAt (cell c (.ysend k)) 0 N) ∗ atPos ER (cell c (.ysend k)) 0 ∅ 0)
      ⊢ iprop(((Owes c (owe c a b g h) ∗ atPos ER (cell c (.ysend k)) 1 ∅ 0 ∗ xsP c (slot k).val qL (xin X c k.val)) -∗ W c K Q)
          -∗ W c (sentY k K) Q) := by
  unfold sentY
  iintro H HK
  iapply (w_dma X κ ν c (dst := xslot (slot k)) (.ysend k) rfl 0 0 N rfl rfl rfl _ (may_low c (.ysend k) (fun _ => rfl) 0 a b g h)) $$ H
  iintro ⟨HO, Hat, -, Hp⟩
  unfold pay
  iapply HK
  isplitl [HO]; · iexact HO
  isplitl [Hat]; · iexact Hat
  iexact Hp

/-- The wait until a sent chunk of the argument has been read. -/
theorem w_sentX (k : Fin 16) (a b g h : ℕ) (K : KProg F) (Q : PUnit → sProp 𝕄) :
    iprop(ctx X κ ν ∗ Owes c (owe c a b g h) ∗ cred (tallyAt (cell c (.xsend k)) 0 N) ∗ atPos ER (cell c (.xsend k)) 0 ∅ 0)
      ⊢ iprop(((Owes c (owe c a b g h) ∗ atPos ER (cell c (.xsend k)) 1 ∅ 0 ∗ xP X c k.val) -∗ W c K Q)
          -∗ W c (sentX c k K) Q) := by
  unfold sentX
  iintro H HK
  iapply (w_dma X κ ν c (.xsend k) rfl 0 0 N (credit_src c k) rfl rfl _ (may_low c (.xsend k) (fun _ => rfl) 0 a b g h)) $$ H
  iintro ⟨HO, Hat, -, Hp⟩
  unfold pay
  iapply HK
  isplitl [HO]; · iexact HO
  isplitl [Hat]; · iexact Hat
  iexact Hp

/-- The waits for the copies out. -/
theorem w_outX (k : Fin 16) (a b g h : ℕ) (K : KProg F) (Q : PUnit → sProp 𝕄) :
    iprop(ctx X κ ν ∗ Owes c (owe c a b g h) ∗ cred (tallyAt (cell c (.xout k)) 0 N) ∗ atPos ER (cell c (.xout k)) 0 ∅ 0)
      ⊢ iprop(((Owes c (owe c a b g h) ∗ atPos ER (cell c (.xout k)) 1 ∅ 0 ∗ outP c (bx c k.val) (fin X c) ∗ accP c (bx c k.val) (fin X c)) -∗ W c K Q)
          -∗ W c (outX c k K) Q) := by
  unfold outX
  iintro H HK
  iapply (w_dma X κ ν c (.xout k) rfl 0 0 N (credit_X c k) rfl rfl _ (may_low c (.xout k) (fun _ => rfl) 0 a b g h)) $$ H
  iintro ⟨HO, Hat, -, Hp⟩
  unfold pay
  iapply HK
  isplitl [HO]; · iexact HO
  isplitl [Hat]; · iexact Hat
  iexact Hp
theorem w_outY (k : Fin 16) (a b g h : ℕ) (K : KProg F) (Q : PUnit → sProp 𝕄) :
    iprop(ctx X κ ν ∗ Owes c (owe c a b g h) ∗ cred (tallyAt (cell c (.yout k)) 0 N) ∗ atPos ER (cell c (.yout k)) 0 ∅ 0)
      ⊢ iprop(((Owes c (owe c a b g h) ∗ atPos ER (cell c (.yout k)) 1 ∅ 0 ∗ outP c (byy c k.val) (fin X c) ∗ accP c (byy c k.val) (fin X c)) -∗ W c K Q)
          -∗ W c (outY c k K) Q) := by
  unfold outY
  iintro H HK
  iapply (w_dma X κ ν c (.yout k) rfl 0 0 N (credit_Y c k) rfl rfl _ (may_low c (.yout k) (fun _ => rfl) 0 a b g h)) $$ H
  iintro ⟨HO, Hat, -, Hp⟩
  unfold pay
  iapply HK
  isplitl [HO]; · iexact HO
  isplitl [Hat]; · iexact Hat
  iexact Hp

/-- The wait for the partner's chunk `k`, when all but chunks well behind it have been dealt with. -/
theorem w_recvX (k : Fin 16) {a b g h : ℕ} (ha : 12 ≤ a) (ha' : 12 ≤ k.val → 16 ≤ a) (hb : k.val ≤ b) (hg : 12 ≤ k.val → 4 ≤ g) (hh : 12 ≤ k.val → 4 ≤ h)
    (K : KProg F) (Q : PUnit → sProp 𝕄) :
    iprop(ctx X κ ν ∗ Owes c (owe c a b g h) ∗ cred (tallyAt (cell c (.xrecv (slot k))) k N) ∗ atPos ER (cell c (.xrecv (slot k))) (k.val / 12) ∅ 0)
      ⊢ iprop(((Owes c (owe c a b g h) ∗ atPos ER (cell c (.xrecv (slot k))) (k.val / 12 + 1) ∅ 0
            ∗ reached ER (cell c (.xrecv (slot k))) (k.val / 12 + 1) ∗ xsP c (slot k).val fullShare (xin X c k.val)) -∗ W c K Q)
          -∗ W c (recvX c k K) Q) := by
  have hm : Lev ⊢ (MayWait (Dev.tc c : Thread nD τ) (CK.xrecv (slot k)).sem k (owe c a b g h) : sProp 𝕄) := by
    refine mayWait c (.xrecv (slot k)) k ?_ ?_ ?_ ?_ <;> intro j hj hj' <;> simp only [lvK] <;> split_ifs <;> omega
  unfold recvX
  iintro H HK
  iapply (w_dma X κ ν c (dst := xslot (slot k)) (.xrecv (slot k)) rfl (k.val / 12) k N rfl rfl (dset_xrecv k) _ hm) $$ H
  rw [pay_xrecv]
  iexact HK

/-- The wait for the buddy's chunk `k`. -/
theorem w_recvY (k : Fin 16) {a b g h : ℕ} (ha : min 16 (13 + k.val) ≤ a) (hb : min 16 (k.val + 3) ≤ b) (hg : min 4 (k.val + 1) ≤ g) (hh : min 4 k.val ≤ h)
    (K : KProg F) (Q : PUnit → sProp 𝕄) :
    iprop(ctx X κ ν ∗ Owes c (owe c a b g h) ∗ cred (tallyAt (cell c (.yrecv (slot k))) k N) ∗ atPos ER (cell c (.yrecv (slot k))) (k.val / 12) ∅ 0)
      ⊢ iprop(((Owes c (owe c a b g h) ∗ atPos ER (cell c (.yrecv (slot k))) (k.val / 12 + 1) ∅ 0
            ∗ reached ER (cell c (.yrecv (slot k))) (k.val / 12 + 1) ∗ ysP c (slot k).val fullShare (yin X c k.val)) -∗ W c K Q)
          -∗ W c (recvY k K) Q) := by
  have hm : Lev ⊢ (MayWait (Dev.tc c : Thread nD τ) (CK.yrecv (slot k)).sem k (owe c a b g h) : sProp 𝕄) := by
    refine mayWait c (.yrecv (slot k)) k ?_ ?_ ?_ ?_ <;> intro j hj hj' <;> simp only [lvK] <;> (try split_ifs) <;> omega
  unfold recvY
  iintro H HK
  iapply (w_dma X κ ν c (dst := yslot (slot k)) (.yrecv (slot k)) rfl (k.val / 12) k N rfl rfl (dset_yrecv k) _ hm) $$ H
  rw [pay_yrecv]
  iexact HK

end Cert.KernelIdeal.Own
end
-- ==== Proof.Ideal.Steps.lean ====
/- The steps of the two loops, over what a core holds between them. -/
module

public import proofs.«01_k».proof.Proof.Ideal.Waits

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (X : Dev nD → S1x8192x2048.Idx → Elt F .f32) (κ : Dev nD × CK → ℕ) (ν : Key → ℕ) (c : Dev nD)

/-! ## What a core holds, chunk by chunk -/

/-- One of the four signals as an index of its cell. -/
abbrev i4 (i : Fin 4) : Fin 16 := ⟨i.val, by omega⟩

/-- What sending a chunk to the partner takes, but for the slot it goes to, -/
def TX (k : Fin 16) : sProp 𝕄 := iprop(dutyTok ER (cell (px c) (.xrecv (slot k))) (k.val / 12) 0 ∗ dutyTok ER (cell c (.xsend k)) 0 0
  ∗ xP X c k.val ∗ atPos ER (cell c (.xsend k)) 0 ∅ 0)
/-- and what is left of it to wait for. -/
def CS (k : Fin 16) : sProp 𝕄 := iprop(cred (tallyAt (cell c (.xsend k)) 0 N) ∗ atPos ER (cell c (.xsend k)) 0 ∅ 0)
/-- The partner's slots, and the buddy's. -/
def UX (s : Fin 12) : sProp 𝕄 := xsA (px c) s.val
def UY (s : Fin 12) : sProp 𝕄 := ysA (py c) s.val
/-- What handing a slot back to the partner takes, and taking the partner's back; -/
def VX (i : Fin 4) : sProp 𝕄 := iprop(Release.writeTok ES ((px c, false, i) : Key) 1 ∗ Release.readerAt ES ((c, false, i) : Key) 0
  ∗ dutyTok ER (cell (px c) .xcr) 0 i ∗ cred (tallyAt (cell c .xcr) (i4 i) 1))
/-- taking the buddy's back; -/
def VY (i : Fin 4) : sProp 𝕄 := iprop(Release.writeTok ES ((py c, true, i) : Key) 1 ∗ cred (tallyAt (cell c .ycr) (i4 i) 1))
/-- handing a slot back to the buddy. -/
def GY (i : Fin 4) : sProp 𝕄 := iprop(Release.readerAt ES ((c, true, i) : Key) 0 ∗ dutyTok ER (cell (py c) .ycr) 0 i)
/-- What dealing with the partner's chunk takes, -/
def RX (k : Fin 16) : sProp 𝕄 := iprop(cred (tallyAt (cell c (.xrecv (slot k))) k N) ∗ dutyTok ER (cell (py c) (.yrecv (slot k))) (k.val / 12) 0
  ∗ dutyTok ER (cell c (.ysend k)) 0 0 ∗ dutyTok ER (cell c (.xout k)) 0 0 ∗ atPos ER (cell c (.xout k)) 0 ∅ 0
  ∗ outA c (bx c k.val) ∗ accP c (bx c k.val) (own X c))
/-- what it leaves to wait for, -/
def FX (k : Fin 16) : sProp 𝕄 := iprop(cred (tallyAt (cell c (.xout k)) 0 N) ∗ atPos ER (cell c (.xout k)) 0 ∅ 0)
/-- and what goes on to the step that takes back the forwarded half. -/
def MX (k : Fin 16) : sProp 𝕄 := iprop(xsP c (slot k).val qR (xin X c k.val) ∗ cred (tallyAt (cell c (.ysend k)) 0 N)
  ∗ reached ER (cell c (.xrecv (slot k))) (k.val / 12 + 1))
/-- What dealing with the buddy's chunk takes, -/
def RY (k : Fin 16) : sProp 𝕄 := iprop(cred (tallyAt (cell c (.yrecv (slot k))) k N) ∗ dutyTok ER (cell c (.yout k)) 0 0 ∗ atPos ER (cell c (.yout k)) 0 ∅ 0
  ∗ outA c (byy c k.val) ∗ accP c (byy c k.val) (own X c) ∗ atPos ER (cell c (.ysend k)) 0 ∅ 0)
/-- and what it leaves. -/
def FY (k : Fin 16) : sProp 𝕄 := iprop(cred (tallyAt (cell c (.yout k)) 0 N) ∗ atPos ER (cell c (.yout k)) 0 ∅ 0 ∗ atPos ER (cell c (.ysend k)) 1 ∅ 0)
/-- A chunk's slot when no transfer uses it any more. -/
def KX (k : Fin 16) : sProp 𝕄 := xsA c (slot k).val
def KY (k : Fin 16) : sProp 𝕄 := ysA c (slot k).val

/-- How often a slot has been received into when `i` chunks have been. -/
def rc (i : ℕ) (s : Fin 12) : ℕ := (i + 11 - s.val) / 12
/-- The receive cells after `i` chunks of the partner, -/
def PX (i : ℕ) : sProp 𝕄 := bigSep Finset.univ fun s : Fin 12 => atPos ER (cell c (.xrecv s)) (rc i s) ∅ 0
/-- and of the buddy. -/
def PY (i : ℕ) : sProp 𝕄 := bigSep Finset.univ fun s : Fin 12 => atPos ER (cell c (.yrecv s)) (rc i s) ∅ 0

theorem rc_slot (k : Fin 16) : rc k.val (slot k) = k.val / 12 := by unfold rc; show (k.val + 11 - k.val % 12) / 12 = _; omega
theorem rc_slot' (k : Fin 16) : rc (k.val + 1) (slot k) = k.val / 12 + 1 := by unfold rc; show (k.val + 1 + 11 - k.val % 12) / 12 = _; omega
theorem rc_ne (k : Fin 16) (s : Fin 12) (h : s ≠ slot k) : rc (k.val + 1) s = rc k.val s := by
  have h' : s.val ≠ k.val % 12 := fun e => h (Fin.ext e)
  have := s.isLt
  unfold rc; omega

/-- One slot's cell out of all, to be put back a round on. -/
theorem rc_take (A : Fin 12 → ℕ → sProp 𝕄) (k : Fin 16) : bigSep Finset.univ (fun s => A s (rc k.val s))
    ⊢ iprop(A (slot k) (k.val / 12) ∗ (A (slot k) (k.val / 12 + 1) -∗ bigSep Finset.univ (fun s => A s (rc (k.val + 1) s)))) := by
  have h1 : bigSep Finset.univ (fun s => A s (rc k.val s)) = iprop(A (slot k) (k.val / 12) ∗ bigSep (Finset.univ.erase (slot k)) (fun s => A s (rc k.val s))) := by
    rw [bigSep_erase (Finset.mem_univ (slot k)), rc_slot]; rfl
  have h2 : bigSep Finset.univ (fun s => A s (rc (k.val + 1) s)) = iprop(A (slot k) (k.val / 12 + 1) ∗ bigSep (Finset.univ.erase (slot k)) (fun s => A s (rc k.val s))) := by
    rw [bigSep_erase (Finset.mem_univ (slot k)), rc_slot', bigSep_congr fun s hs => by rw [rc_ne k s (Finset.ne_of_mem_erase hs)]]; rfl
  rw [h1, h2]
  iintro ⟨H1, H2⟩
  isplitl [H1]; · iexact H1
  iintro H
  isplitl [H] <;> iassumption

/-! ## Slots handed back and taken -/

/-- What the exchange of slots with the partner has come to after `m` of them, -/
def ZX (m : ℕ) : sProp 𝕄 := iprop(iv (m + 12) 16 (TX X c) ∗ iv m 4 (VX c) ∗ iv 0 (m + 12) (CS c) ∗ credits X c .xcr m ∗ facts c false m)
/-- what handing slots back to the buddy has, -/
def ZY (m : ℕ) : sProp 𝕄 := iprop(iv m 4 (GY c) ∗ facts c true m)
/-- and the buddy's slots before chunk `i` is forwarded. -/
def ZC (i : ℕ) : sProp 𝕄 := iprop(iv i 12 (UY c) ∗ iv (i - 12) 4 (VY c) ∗ credits X c .ycr (i - 12))

theorem pay_cr_persistent (k : CK) (hk : k = .xcr ∨ k = .ycr) (j : Fin 4) : BI.Persistent (pay X c k 0 j) := by
  rcases hk with rfl | rfl <;> (unfold pay; infer_instance)

/-- The buddy's slot a chunk is forwarded to: its own at first, then one the buddy has handed back. -/
theorem w_credY (k : Fin 16) {a b g h : ℕ} (ha : 12 ≤ k.val → 16 ≤ a) (hb : k.val ≤ b) (hg : 12 ≤ k.val → 4 ≤ g) (hh : 12 ≤ k.val → 4 ≤ h)
    (K : KProg F) (Q : PUnit → sProp 𝕄) :
    iprop(ctx X κ ν ∗ Owes c (owe c a b g h) ∗ ZC X c k.val)
      ⊢ iprop(((Owes c (owe c a b g h) ∗ ysA (py c) (slot k).val ∗ reached ER (cell (py c) (.yrecv (slot k))) (k.val / 12) ∗ ZC X c (k.val + 1)) -∗ W c K Q)
          -∗ W c (credY k K) Q) := by
  unfold credY ZC
  by_cases h12 : 12 ≤ k.val
  · have hj : k.val - 12 < 4 := by omega
    have es : slot k = s4 ⟨k.val - 12, hj⟩ := Fin.ext (show k.val % 12 = k.val - 12 by omega)
    have ek : k.val / 12 = 1 := by omega
    have eu : iv k.val 12 (UY (F := F) c) = iv (k.val + 1) 12 (UY c) := iv_end _ (by intro j; omega)
    have ei : k.val + 1 - 12 = (k.val - 12) + 1 := by omega
    have hv := iv_take (VY (F := F) c) ⟨k.val - 12, hj⟩ (i := 4) hj
    have hm : Lev ⊢ (MayWait (Dev.tc c : Thread nD τ) CK.ycr.sem (i4 ⟨k.val - 12, hj⟩) (owe c a b g h) : sProp 𝕄) := by
      refine mayWait c .ycr (i4 ⟨k.val - 12, hj⟩) ?_ ?_ ?_ ?_ <;> intro j hj hj' <;> simp only [lvK] <;> (try split_ifs) <;> omega
    rw [if_pos h12, eu, ei, es, ek]
    iintro ⟨#Hc, HO, Hu, Hv, Hcr⟩ HK
    ihave Hv := hv $$ Hv
    icases Hv with ⟨Hv1, Hv⟩
    unfold VY
    icases Hv1 with ⟨Hw, Hc1⟩
    iapply (w_take X κ ν c ycrS .ycr rfl (Or.inr rfl) ⟨k.val - 12, hj⟩ _ hm (hp := pay_cr_persistent X c .ycr (Or.inr rfl))) $$ [HO Hc1 Hcr]
    · isplitr; · iexact Hc
      isplitl [HO]; · iexact HO
      isplitl [Hc1]; · iexact Hc1
      iexact Hcr
    iintro ⟨HO, Hcr, ⟨%j, %hj', Hp⟩⟩
    have hf : pay X c .ycr 0 j ⊢ fact (F := F) (py c) true ⟨k.val - 12, hj⟩ := by
      unfold pay; exact facts_at (py c) true ⟨k.val - 12, hj⟩ (Nat.lt_succ_of_le hj')
    ihave Hp := hf $$ Hp
    unfold fact
    icases Hp with ⟨#Hrel, #Hr⟩
    ihave Hs := (ctx_slot X κ ν (py c, true, ⟨k.val - 12, hj⟩)) $$ Hc
    imod (Release.slot_take ES (Set.mem_univ (ν (py c, true, ⟨k.val - 12, hj⟩))) 1) $$ [Hs Hw] with Hd
    · isplitl [Hs]; · iexact Hs
      isplitr; · iexact Hrel
      iexact Hw
    iapply HK
    isplitl [HO]; · iexact HO
    isplitl [Hd]; · unfold keySlot; iexact Hd
    isplitr; · iexact Hr
    isplitl [Hu]; · iexact Hu
    isplitl [Hv]; · iexact Hv
    iexact Hcr
  · have hk : k.val < 12 := by omega
    have es : (slot k).val = k.val := Nat.mod_eq_of_lt hk
    have ek : k.val / 12 = 0 := by omega
    have e0 : k.val - 12 = 0 := by omega
    have e1 : k.val + 1 - 12 = 0 := by omega
    have hu := iv_take (UY (F := F) c) ⟨k.val, hk⟩ (i := 12) hk
    rw [if_neg h12, e0, e1, es, ek]
    iintro ⟨#Hc, HO, Hu, Hv, Hcr⟩ HK
    ihave Hu := hu $$ Hu
    icases Hu with ⟨Hu1, Hu⟩
    ihave Hce := (ctx_cell X κ ν (py c) (.yrecv (slot k))) $$ Hc
    icases Hce with ⟨-, #Hr⟩
    iapply HK
    isplitl [HO]; · iexact HO
    isplitl [Hu1]; · unfold UY; iexact Hu1
    isplitr; · iexact Hr
    isplitl [Hu]; · iexact Hu
    isplitl [Hv]; · iexact Hv
    iexact Hcr

/-- A slot is one core's only. -/
theorem keySlot_false (k : Key) : iprop(keySlot k ∗ keySlot k) ⊢ (False : sProp 𝕄) := by
  obtain ⟨e, b, i⟩ := k
  have hi : (ix3 (s4 i) 0 0 : S12x256x1024.Idx) ∈ slab i.val := by rw [slab, Finset.mem_filter]; exact ⟨Finset.mem_univ _, rfl⟩
  cases b <;> unfold keySlot
  · unfold xsA xsP
    iintro ⟨⟨%f, Hf⟩, ⟨%g, Hg⟩⟩
    iapply (pointsTo_overlap_false (ℓ := xcL e) (I := slab i.val) (J := slab i.val) (q := fullShare) (f := (f : Buf (Elt F) (xcL e))) (g := (g : Buf (Elt F) (xcL e))) (i := (ix3 (s4 i) 0 0 : S12x256x1024.Idx)) hi hi)
    isplitl [Hf] <;> iassumption
  · unfold ysA ysP
    iintro ⟨⟨%f, Hf⟩, ⟨%g, Hg⟩⟩
    iapply (pointsTo_overlap_false (ℓ := ycL e) (I := slab i.val) (J := slab i.val) (q := fullShare) (f := (f : Buf (Elt F) (ycL e))) (g := (g : Buf (Elt F) (ycL e))) (i := (ix3 (s4 i) 0 0 : S12x256x1024.Idx)) hi hi)
    isplitl [Hf] <;> iassumption

/-- A slot handed back adds to what the peer is told. -/
theorem facts_put (e : Dev nD) (b : Bool) (i : Fin 4) : iprop(facts (F := F) e b i.val ∗ fact e b i) ⊢ facts (F := F) e b (i.val + 1) := by
  unfold facts; exact iv_put (fact (F := F) e b) i (Nat.zero_le _)

theorem slot_up (k : Fin 16) (h : k.val < 4) : slot (up k h) = slot k := Fin.ext (show (k.val + 12) % 12 = k.val % 12 by omega)
theorem slot_s4 (k : Fin 16) (h : k.val < 4) : slot k = s4 ⟨k.val, h⟩ := Fin.ext (show k.val % 12 = k.val by omega)

/-- Handing a slot back to the partner, taking the partner's back and sending a later chunk into it, for the first four
    chunks; for the others the slot stays with the core. -/
theorem w_refill (k : Fin 16) {b h : ℕ} (hb : min 16 (k.val + 3) ≤ b) (hh : min 4 k.val ≤ h) (K : KProg F) (Q : PUnit → sProp 𝕄) :
    iprop(ctx X κ ν ∗ Owes c (owe c (min 4 k.val + 12) b (min 4 k.val) h) ∗ ZX X c (min 4 k.val) ∗ iv 4 k.val (KX c)
        ∗ xsA c (slot k).val ∗ reached ER (cell c (.xrecv (slot k))) (k.val / 12 + 1))
      ⊢ iprop(((Owes c (owe c (min 4 (k.val + 1) + 12) b (min 4 (k.val + 1)) h) ∗ ZX X c (min 4 (k.val + 1)) ∗ iv 4 (k.val + 1) (KX c)) -∗ W c K Q)
          -∗ W c (refill c k K) Q) := by
  unfold refill
  by_cases h4 : k.val < 4
  · have hm0 : min 4 k.val = k.val := by omega
    have hm1 : min 4 (k.val + 1) = k.val + 1 := by omega
    have ek : k.val / 12 = 0 := by omega
    have es := slot_s4 k h4
    have eu : (up k h4).val / 12 = 1 := by show (k.val + 12) / 12 = 1; omega
    have esu : slot (up k h4) = s4 ⟨k.val, h4⟩ := (slot_up k h4).trans es
    have eA : k.val + 1 + 12 = (up k h4).val + 1 := by show _ = k.val + 12 + 1; omega
    have eK : iv 4 (k.val + 1) (KX (F := F) c) = iv 4 k.val (KX c) := iv_end _ (by intro j; omega)
    have hV := iv_take (VX (F := F) c) ⟨k.val, h4⟩ (i := 4) h4
    have hT := iv_take (TX X c) (up k h4) (i := 16) (up k h4).isLt
    have hC := iv_put (CS (F := F) c) (up k h4) (l := 0) (Nat.zero_le _)
    have hg := owe_g c (k.val + 12) b ⟨k.val, h4⟩ h
    have hsnd := owe_a c (up k h4) b (k.val + 1) h
    have hm : Lev ⊢ (MayWait (Dev.tc c : Thread nD τ) CK.xcr.sem (i4 ⟨k.val, h4⟩) (owe c (k.val + 12) b (k.val + 1) h) : sProp 𝕄) := by
      refine mayWait c .xcr (i4 ⟨k.val, h4⟩) ?_ ?_ ?_ ?_ <;> intro j hj hj' <;> simp only [lvK] <;> (try split_ifs) <;> omega
    have hpay : facts (F := F) c false (k.val + 1) ⊢ pay X (px c) .xcr 0 ⟨k.val, h4⟩ := by
      unfold pay; rw [px_px]
    have hput : iprop(facts (F := F) c false k.val ∗ fact c false ⟨k.val, h4⟩) ⊢ facts (F := F) c false (k.val + 1) := facts_put c false ⟨k.val, h4⟩
    rw [dif_pos h4, hm0, hm1, ek, es, eK, hg]
    unfold ZX
    iintro ⟨#Hc, HO, ⟨HT, HV, HC, Hcr, Hf⟩, HK4, Hs, #Hr⟩ HK
    ihave HV := hV $$ HV
    icases HV with ⟨HV1, HV⟩
    unfold VX
    icases HV1 with ⟨Hw, Hrd, Ht, Hc1⟩
    ihave Hsl := (ctx_slot X κ ν (c, false, ⟨k.val, h4⟩)) $$ Hc
    imod (Release.slot_release ES (Set.mem_univ (ν (c, false, ⟨k.val, h4⟩))) (keySlot_false (F := F) (c, false, ⟨k.val, h4⟩)) 0) $$ [Hsl Hrd Hs] with ⟨-, #Hrel⟩
    · isplitl [Hsl]; · iexact Hsl
      isplitl [Hrd]; · iexact Hrd
      unfold keySlot; iexact Hs
    ihave #Hf := hput $$ [Hf]
    · isplitl [Hf]; · iexact Hf
      unfold fact
      isplitr; · iexact Hrel
      iexact Hr
    ihave Hp := hpay $$ Hf
    iapply (w_give X κ ν c (px c) xcrS .xcr rfl rfl ⟨k.val, h4⟩ (Finset.mem_univ _) (i4 ⟨k.val, h4⟩)) $$ [HO Ht Hp]
    · isplitr; · iexact Hc
      isplitl [HO]; · iexact HO
      isplitl [Ht]; · iexact Ht
      iexact Hp
    iintro HO
    iapply (w_take X κ ν c xcrS .xcr rfl (Or.inl rfl) ⟨k.val, h4⟩ _ hm (hp := pay_cr_persistent X c .xcr (Or.inl rfl))) $$ [HO Hc1 Hcr]
    · isplitr; · iexact Hc
      isplitl [HO]; · iexact HO
      isplitl [Hc1]; · iexact Hc1
      iexact Hcr
    iintro ⟨HO, Hcr, ⟨%j, %hj', Hp⟩⟩
    have hfa : pay X c .xcr 0 j ⊢ fact (F := F) (px c) false ⟨k.val, h4⟩ := by
      unfold pay; exact facts_at (px c) false ⟨k.val, h4⟩ (Nat.lt_succ_of_le hj')
    ihave Hp := hfa $$ Hp
    unfold fact
    icases Hp with ⟨#Hrel2, #Hr2⟩
    ihave Hsl := (ctx_slot X κ ν (px c, false, ⟨k.val, h4⟩)) $$ Hc
    imod (Release.slot_take ES (Set.mem_univ (ν (px c, false, ⟨k.val, h4⟩))) 1) $$ [Hsl Hw] with Hd
    · isplitl [Hsl]; · iexact Hsl
      isplitr; · iexact Hrel2
      iexact Hw
    have hT' : iv (k.val + 12) 16 (TX X c) ⊢ iprop((dutyTok ER (cell (px c) (.xrecv (s4 ⟨k.val, h4⟩))) 1 0 ∗ dutyTok ER (cell c (.xsend (up k h4))) 0 0
        ∗ xP X c (up k h4).val ∗ atPos ER (cell c (.xsend (up k h4))) 0 ∅ 0) ∗ iv (k.val + 1 + 12) 16 (TX X c)) := by
      have eT : TX X c (up k h4) = iprop(dutyTok ER (cell (px c) (.xrecv (s4 ⟨k.val, h4⟩))) 1 0 ∗ dutyTok ER (cell c (.xsend (up k h4))) 0 0
          ∗ xP X c (up k h4).val ∗ atPos ER (cell c (.xsend (up k h4))) 0 ∅ 0) := by unfold TX; rw [esu, eu]
      rw [← eT, eA]; exact hT
    ihave HT := hT' $$ HT
    icases HT with ⟨⟨Ht1, Ht2, Hx, Hat⟩, HT⟩
    have hsend := w_sendX X κ ν c (up k h4) (owe c (k.val + 1 + 12) b (k.val + 1) h) K Q
    rw [eA, ← hsnd, eu, esu] at hsend
    iapply hsend $$ [HO Ht1 Ht2 Hx Hd]
    · isplitr; · iexact Hc
      isplitl [HO]; · iexact HO
      isplitl [Ht1]; · iexact Ht1
      isplitr; · iexact Hr2
      isplitl [Ht2]; · iexact Ht2
      isplitl [Hx]; · iexact Hx
      unfold keySlot; iexact Hd
    iintro ⟨HO, Hcd⟩
    iapply HK
    rw [eA]
    isplitl [HO]; · iexact HO
    isplitr [HK4]
    · isplitl [HT]; · iexact HT
      isplitl [HV]; · iexact HV
      isplitl [HC Hcd Hat]
      · iapply hC
        isplitl [HC]; · iexact HC
        unfold CS
        isplitl [Hcd]; · iexact Hcd
        iexact Hat
      isplitl [Hcr]; · iexact Hcr
      iexact Hf
    iexact HK4
  · have hm0 : min 4 k.val = 4 := by omega
    have hm1 : min 4 (k.val + 1) = 4 := by omega
    have hput := iv_put (KX (F := F) c) k (l := 4) (by omega)
    rw [dif_neg h4, hm0, hm1]
    iintro ⟨#Hc, HO, HZ, HK4, Hs, -⟩ HK
    iapply HK
    isplitl [HO]; · iexact HO
    isplitl [HZ]; · iexact HZ
    iapply hput
    isplitl [HK4]; · iexact HK4
    unfold KX; iexact Hs

/-- Handing a slot back to the buddy, for the first four chunks; for the others the slot stays with the core. -/
theorem w_grant (k : Fin 16) (a b g : ℕ) (K : KProg F) (Q : PUnit → sProp 𝕄) :
    iprop(ctx X κ ν ∗ Owes c (owe c a b g (min 4 k.val)) ∗ ZY c (min 4 k.val) ∗ iv 4 k.val (KY c)
        ∗ ysA c (slot k).val ∗ reached ER (cell c (.yrecv (slot k))) (k.val / 12 + 1))
      ⊢ iprop(((Owes c (owe c a b g (min 4 (k.val + 1))) ∗ ZY c (min 4 (k.val + 1)) ∗ iv 4 (k.val + 1) (KY c)) -∗ W c K Q)
          -∗ W c (grant c k K) Q) := by
  unfold grant
  by_cases h4 : k.val < 4
  · have hm0 : min 4 k.val = k.val := by omega
    have hm1 : min 4 (k.val + 1) = k.val + 1 := by omega
    have ek : k.val / 12 = 0 := by omega
    have es := slot_s4 k h4
    have eK : iv 4 (k.val + 1) (KY (F := F) c) = iv 4 k.val (KY c) := iv_end _ (by intro j; omega)
    have hV := iv_take (GY (F := F) c) ⟨k.val, h4⟩ (i := 4) h4
    have hh := owe_h c a b g ⟨k.val, h4⟩
    have hpay : facts (F := F) c true (k.val + 1) ⊢ pay X (py c) .ycr 0 ⟨k.val, h4⟩ := by
      unfold pay; rw [py_py]
    have hput : iprop(facts (F := F) c true k.val ∗ fact c true ⟨k.val, h4⟩) ⊢ facts (F := F) c true (k.val + 1) := facts_put c true ⟨k.val, h4⟩
    rw [if_pos h4, hm0, hm1, ek, es, eK, hh]
    unfold ZY
    iintro ⟨#Hc, HO, ⟨HV, Hf⟩, HK4, Hs, #Hr⟩ HK
    ihave HV := hV $$ HV
    icases HV with ⟨HV1, HV⟩
    unfold GY
    icases HV1 with ⟨Hrd, Ht⟩
    ihave Hsl := (ctx_slot X κ ν (c, true, ⟨k.val, h4⟩)) $$ Hc
    imod (Release.slot_release ES (Set.mem_univ (ν (c, true, ⟨k.val, h4⟩))) (keySlot_false (F := F) (c, true, ⟨k.val, h4⟩)) 0) $$ [Hsl Hrd Hs] with ⟨-, #Hrel⟩
    · isplitl [Hsl]; · iexact Hsl
      isplitl [Hrd]; · iexact Hrd
      unfold keySlot; iexact Hs
    ihave #Hf := hput $$ [Hf]
    · isplitl [Hf]; · iexact Hf
      unfold fact
      isplitr; · iexact Hrel
      iexact Hr
    ihave Hp := hpay $$ Hf
    iapply (w_give X κ ν c (py c) ycrS .ycr rfl rfl ⟨k.val, h4⟩ (Finset.mem_univ _) (i4 ⟨k.val, h4⟩)) $$ [HO Ht Hp]
    · isplitr; · iexact Hc
      isplitl [HO]; · iexact HO
      isplitl [Ht]; · iexact Ht
      iexact Hp
    iintro HO
    iapply HK
    isplitl [HO]; · iexact HO
    isplitl [HV]
    · isplitl [HV]; · iexact HV
      iexact Hf
    iexact HK4
  · have hm0 : min 4 k.val = 4 := by omega
    have hm1 : min 4 (k.val + 1) = 4 := by omega
    have hput := iv_put (KY (F := F) c) k (l := 4) (by omega)
    rw [if_neg h4, hm0, hm1]
    iintro ⟨#Hc, HO, HZ, HK4, Hs, -⟩ HK
    iapply HK
    isplitl [HO]; · iexact HO
    isplitl [HZ]; · iexact HZ
    iapply hput
    isplitl [HK4]; · iexact HK4
    unfold KY; iexact Hs

/-! ## The steps -/

/-- A slot in the two halves that are read at once. -/
theorem xsP_share (s : ℕ) (f : S12x256x1024.Idx → Elt F .f32) : (xsP c s fullShare f : sProp 𝕄) ⊣⊢ iprop(xsP c s qL f ∗ xsP c s qR f) := by
  unfold xsP; exact pointsTo_share (PosShare.mem_left_op_right fullShare)

/-- What a core holds for the partner's chunks after `i` of them, -/
def SX (i : ℕ) : sProp 𝕄 := iprop(iv i 16 (RX X c) ∗ PX c i ∗ ZC X c i ∗ iv 0 i (FX c))
/-- and for the buddy's. -/
def SY (j : ℕ) : sProp 𝕄 := iprop(ZX X c (min 4 j) ∗ iv 4 j (KX c) ∗ iv j 16 (RY X c) ∗ PY c j ∗ ZY c (min 4 j) ∗ iv 4 j (KY c) ∗ iv 0 j (FY c))

/-- Everything done with the partner's chunk `k`. -/
theorem w_stepX (k : Fin 16) {a g h : ℕ} (ha : 12 ≤ a) (ha' : 12 ≤ k.val → 16 ≤ a) (hg : 12 ≤ k.val → 4 ≤ g) (hh : 12 ≤ k.val → 4 ≤ h)
    (K : KProg F) (Q : PUnit → sProp 𝕄) :
    iprop(ctx X κ ν ∗ Owes c (owe c a k.val g h) ∗ SX X c k.val)
      ⊢ iprop(((Owes c (owe c a (k.val + 1) g h) ∗ SX X c (k.val + 1) ∗ MX X c k) -∗ W c K Q) -∗ W c (stepX c k K) Q) := by
  have hR := iv_take (RX X c) k (i := 16) k.isLt
  have hP : PX (F := F) c k.val ⊢ iprop(atPos ER (cell c (.xrecv (slot k))) (k.val / 12) ∅ 0 ∗ (atPos ER (cell c (.xrecv (slot k))) (k.val / 12 + 1) ∅ 0 -∗ PX c (k.val + 1))) := by
    unfold PX; exact rc_take (fun s r => atPos ER (cell c (.xrecv s)) r ∅ 0) k
  have hF := iv_put (FX (F := F) c) k (l := 0) (Nat.zero_le _)
  have hsnd := w_sendY X κ ν c k (owe c a (k.val + 1) g h) (addX c k (flushX c k K)) Q
  rw [← owe_b] at hsnd
  unfold stepX SX
  iintro ⟨#Hc, HO, HR, HP, HZ, HF⟩ HK
  ihave HR := hR $$ HR
  unfold RX
  icases HR with ⟨⟨Hcr, Ht1, Ht2, Ht3, Hat, Ho, Ha⟩, HR⟩
  ihave HP := hP $$ HP
  icases HP with ⟨Hp, HP⟩
  iapply (w_recvX X κ ν c k ha ha' (le_refl _) hg hh) $$ [HO Hcr Hp]
  · isplitr; · iexact Hc
    isplitl [HO]; · iexact HO
    isplitl [Hcr]; · iexact Hcr
    iexact Hp
  iintro ⟨HO, Hp, #Hr, Hs⟩
  ihave HP := HP $$ Hp
  iapply (w_credY X κ ν c k ha' (le_refl _) hg hh) $$ [HO HZ]
  · isplitr; · iexact Hc
    isplitl [HO]; · iexact HO
    iexact HZ
  iintro ⟨HO, Hd, #Hr2, HZ⟩
  ihave Hs := (xsP_share c (slot k).val (xin X c k.val)).1 $$ Hs
  icases Hs with ⟨HsL, HsR⟩
  iapply hsnd $$ [HO Ht1 Ht2 HsL Hd]
  · isplitr; · iexact Hc
    isplitl [HO]; · iexact HO
    isplitl [Ht1]; · iexact Ht1
    isplitr; · iexact Hr2
    isplitl [Ht2]; · iexact Ht2
    isplitl [HsL]; · iexact HsL
    iexact Hd
  iintro ⟨HO, Hcy⟩
  iapply (w_addX X c k) $$ [Ha HsR]
  · isplitl [Ha] <;> iassumption
  iintro ⟨Ha, HsR⟩
  iapply (w_flushX X κ ν c k) $$ [Ha Ho Ht3]
  · isplitr; · iexact Hc
    isplitl [Ha]; · iexact Ha
    isplitl [Ho]; · iexact Ho
    iexact Ht3
  iintro Hco
  iapply HK
  isplitl [HO]; · iexact HO
  isplitl [HR HP HZ HF Hco Hat]
  · isplitl [HR]; · iexact HR
    isplitl [HP]; · iexact HP
    isplitl [HZ]; · iexact HZ
    iapply hF
    isplitl [HF]; · iexact HF
    unfold FX
    isplitl [Hco]; · iexact Hco
    iexact Hat
  unfold MX
  isplitl [HsR]; · iexact HsR
  isplitl [Hcy]; · iexact Hcy
  iexact Hr

/-- Everything done with the buddy's chunk `k`. -/
theorem w_stepY (k : Fin 16) {b : ℕ} (hb : min 16 (k.val + 3) ≤ b) (K : KProg F) (Q : PUnit → sProp 𝕄) :
    iprop(ctx X κ ν ∗ Owes c (owe c (min 4 k.val + 12) b (min 4 k.val) (min 4 k.val)) ∗ MX X c k ∗ SY X c k.val)
      ⊢ iprop(((Owes c (owe c (min 4 (k.val + 1) + 12) b (min 4 (k.val + 1)) (min 4 (k.val + 1))) ∗ SY X c (k.val + 1)) -∗ W c K Q)
          -∗ W c (stepY c k K) Q) := by
  have hR := iv_take (RY X c) k (i := 16) k.isLt
  have hP : PY (F := F) c k.val ⊢ iprop(atPos ER (cell c (.yrecv (slot k))) (k.val / 12) ∅ 0 ∗ (atPos ER (cell c (.yrecv (slot k))) (k.val / 12 + 1) ∅ 0 -∗ PY c (k.val + 1))) := by
    unfold PY; exact rc_take (fun s r => atPos ER (cell c (.yrecv s)) r ∅ 0) k
  have hF := iv_put (FY (F := F) c) k (l := 0) (Nat.zero_le _)
  unfold stepY SY MX
  iintro ⟨#Hc, HO, ⟨HsR, Hcy, #Hr⟩, HZX, HKX, HR, HP, HZY, HKY, HF⟩ HK
  ihave HR := hR $$ HR
  unfold RY
  icases HR with ⟨⟨Hcr, Ht, Hat, Ho, Ha, Hys⟩, HR⟩
  ihave HP := hP $$ HP
  icases HP with ⟨Hp, HP⟩
  iapply (w_sentY X κ ν c k) $$ [HO Hcy Hys]
  · isplitr; · iexact Hc
    isplitl [HO]; · iexact HO
    isplitl [Hcy]; · iexact Hcy
    iexact Hys
  iintro ⟨HO, Hys, HsL⟩
  ihave Hs := (xsP_share c (slot k).val (xin X c k.val)).2 $$ [HsL HsR]
  · isplitl [HsL] <;> iassumption
  iapply (w_refill X κ ν c k hb (le_refl _)) $$ [HO HZX HKX Hs]
  · isplitr; · iexact Hc
    isplitl [HO]; · iexact HO
    isplitl [HZX]; · iexact HZX
    isplitl [HKX]; · iexact HKX
    isplitl [Hs]; · unfold xsA; iexists _; iexact Hs
    iexact Hr
  iintro ⟨HO, HZX, HKX⟩
  iapply (w_recvY X κ ν c k (a := min 4 (k.val + 1) + 12) (by omega) hb (le_refl _) (le_refl _)) $$ [HO Hcr Hp]
  · isplitr; · iexact Hc
    isplitl [HO]; · iexact HO
    isplitl [Hcr]; · iexact Hcr
    iexact Hp
  iintro ⟨HO, Hp, #Hr2, Hs⟩
  ihave HP := HP $$ Hp
  iapply (w_addY X c k) $$ [Ha Hs]
  · isplitl [Ha] <;> iassumption
  iintro ⟨Ha, Hs⟩
  iapply (w_flushY X κ ν c k) $$ [Ha Ho Ht]
  · isplitr; · iexact Hc
    isplitl [Ha]; · iexact Ha
    isplitl [Ho]; · iexact Ho
    iexact Ht
  iintro Hco
  iapply (w_grant X κ ν c k) $$ [HO HZY HKY Hs]
  · isplitr; · iexact Hc
    isplitl [HO]; · iexact HO
    isplitl [HZY]; · iexact HZY
    isplitl [HKY]; · iexact HKY
    isplitl [Hs]; · unfold ysA; iexists _; iexact Hs
    iexact Hr2
  iintro ⟨HO, HZY, HKY⟩
  iapply HK
  isplitl [HO]; · iexact HO
  isplitl [HZX]; · iexact HZX
  isplitl [HKX]; · iexact HKX
  isplitl [HR]; · iexact HR
  isplitl [HP]; · iexact HP
  isplitl [HZY]; · iexact HZY
  isplitl [HKY]; · iexact HKY
  iapply hF
  isplitl [HF]; · iexact HF
  unfold FY
  isplitl [Hco]; · iexact Hco
  isplitl [Hat]; · iexact Hat
  iexact Hys

/-! ## The loops -/

/-- A run of steps, from one that advances what is held between them. -/
theorem w_chunks (f : Fin 16 → KProg F → KProg F) (I : ℕ → sProp 𝕄) (Q : PUnit → sProp 𝕄) (i n : ℕ) (h : i + n ≤ 16)
    (hf : ∀ (k : Fin 16) (K : KProg F), i ≤ k.val → k.val < i + n → iprop(ctx X κ ν ∗ I k.val) ⊢ iprop((I (k.val + 1) -∗ W c K Q) -∗ W c (f k K) Q))
    (K : KProg F) : iprop(ctx X κ ν ∗ I i) ⊢ iprop((I (i + n) -∗ W c K Q) -∗ W c (chunks f i n h K) Q) := by
  induction n generalizing i with
  | zero =>
    unfold chunks
    iintro ⟨-, H⟩ HK
    iapply HK; iexact H
  | succ n ih =>
    have ih' := ih (i + 1) (by omega) (fun k K h1 h2 => hf k K (by omega) (by omega))
    have e : I (i + 1 + n) = I (i + (n + 1)) := by congr 1; omega
    rw [e] at ih'
    have h1 := hf ⟨i, by omega⟩ (chunks f (i + 1) n (by omega) K) (le_refl _) (by show i < _; omega)
    unfold chunks
    iintro ⟨#Hc, H⟩ HK
    iapply h1 $$ [H]
    · isplitr; · iexact Hc
      iexact H
    iintro H
    iapply ih' $$ [H]
    · isplitr; · iexact Hc
      iexact H
    iexact HK

/-- What a core holds after `i` of the partner's chunks and `j` of the buddy's. -/
def st (i j : ℕ) : sProp 𝕄 := iprop(Owes c (owe c (min 4 j + 12) i (min 4 j) (min 4 j)) ∗ SX X c i ∗ iv j i (MX X c) ∗ SY X c j)

theorem w_st_X (k : Fin 16) {j : ℕ} (hj : j ≤ k.val) (h : 12 ≤ k.val → 4 ≤ j) (K : KProg F) (Q : PUnit → sProp 𝕄) :
    iprop(ctx X κ ν ∗ st X c k.val j) ⊢ iprop((st X c (k.val + 1) j -∗ W c K Q) -∗ W c (stepX c k K) Q) := by
  have hM := iv_put (MX X c) k hj
  unfold st
  iintro ⟨#Hc, HO, HX, HM, HY⟩ HK
  iapply (w_stepX X κ ν c k (a := min 4 j + 12) (g := min 4 j) (h := min 4 j) (by omega) (by omega) (by omega) (by omega)) $$ [HO HX]
  · isplitr; · iexact Hc
    isplitl [HO]; · iexact HO
    iexact HX
  iintro ⟨HO, HX, HM1⟩
  iapply HK
  isplitl [HO]; · iexact HO
  isplitl [HX]; · iexact HX
  isplitr [HY]
  · iapply hM
    isplitl [HM] <;> iassumption
  iexact HY

theorem w_st_Y (k : Fin 16) {i : ℕ} (hi : min 16 (k.val + 3) ≤ i) (K : KProg F) (Q : PUnit → sProp 𝕄) :
    iprop(ctx X κ ν ∗ st X c i k.val) ⊢ iprop((st X c i (k.val + 1) -∗ W c K Q) -∗ W c (stepY c k K) Q) := by
  have hM := iv_take (MX X c) k (i := i) (by omega)
  unfold st
  iintro ⟨#Hc, HO, HX, HM, HY⟩ HK
  ihave HM := hM $$ HM
  icases HM with ⟨HM1, HM⟩
  iapply (w_stepY X κ ν c k hi) $$ [HO HM1 HY]
  · isplitr; · iexact Hc
    isplitl [HO]; · iexact HO
    isplitl [HM1]; · iexact HM1
    iexact HY
  iintro ⟨HO, HY⟩
  iapply HK
  isplitl [HO]; · iexact HO
  isplitl [HX]; · iexact HX
  isplitl [HM]; · iexact HM
  iexact HY

/-- The partner's chunk `k` and the buddy's two behind. -/
theorem w_st_XY (k : Fin 16) (K : KProg F) (Q : PUnit → sProp 𝕄) :
    iprop(ctx X κ ν ∗ st X c k.val (k.val - 2)) ⊢ iprop((st X c (k.val + 1) (k.val + 1 - 2) -∗ W c K Q) -∗ W c (stepXY c k K) Q) := by
  unfold stepXY
  by_cases h : 2 ≤ k.val
  · have hY := w_st_Y X κ ν c ⟨k.val - 2, by omega⟩ (i := k.val + 1) (by show min 16 (k.val - 2 + 3) ≤ _; omega) K Q
    have e : k.val + 1 - 2 = k.val - 2 + 1 := by omega
    rw [dif_pos h, e]
    iintro ⟨#Hc, H⟩ HK
    iapply (w_st_X X κ ν c k (j := k.val - 2) (by omega) (by omega)) $$ [H]
    · isplitr; · iexact Hc
      iexact H
    iintro H
    iapply hY $$ [H]
    · isplitr; · iexact Hc
      iexact H
    iexact HK
  · have e : k.val + 1 - 2 = k.val - 2 := by omega
    rw [dif_neg h, e]
    exact w_st_X X κ ν c k (by omega) (by omega) K Q

end Cert.KernelIdeal.Own
end
-- ==== Proof.Ideal.Pieces.lean ====
/- What a core starts from and ends with, and how its memory and its semaphores come apart into the pieces the steps use. -/
module

public import proofs.«01_k».proof.Proof.Ideal.Steps

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (X : Dev nD → S1x8192x2048.Idx → Elt F .f32) (κ : Dev nD × CK → ℕ) (ν : Key → ℕ) (c : Dev nD)

/-! ## Memory in parts -/

section Parts
variable {ℓ : Loc nD τ sig} {n : ℕ} (P : Fin n → Finset (Idx ℓ)) (p : Idx ℓ → Fin n) (hP : ∀ t i, i ∈ P t ↔ p i = t)
include hP

theorem parts_disjoint : ∀ t ∈ (Finset.univ : Finset (Fin n)), ∀ t' ∈ (Finset.univ : Finset (Fin n)), t ≠ t' → Disjoint (P t) (P t') := by
  intro t _ t' _ h
  refine Finset.disjoint_left.mpr fun i h1 h2 => h ?_
  rw [hP] at h1 h2; rw [← h1, h2]
theorem parts_cover : Finset.univ.biUnion P = Finset.univ := by
  ext i; simp only [Finset.mem_biUnion, Finset.mem_univ, true_and, iff_true]
  exact ⟨p i, (hP _ _).mpr rfl⟩

/-- A buffer is the parts its elements are sorted into. -/
theorem parts (f : Buf (Elt F) ℓ) : (ℓ ↦{fullShare} f : sProp 𝕄) = bigSep Finset.univ fun t => ℓ ↦[P t]{fullShare} f := by
  rw [← pointsTo_biUnion Finset.univ P (parts_disjoint P p hP), parts_cover P p hP]

/-- Parts at any contents are the buffer at some contents. -/
theorem parts_any (f₀ : Buf (Elt F) ℓ) : bigSep Finset.univ (fun t => iprop(∃ f : Buf (Elt F) ℓ, ℓ ↦[P t]{fullShare} f)) ⊢ (iprop(∃ f, ℓ ↦{fullShare} f) : sProp 𝕄) := by
  haveI : Nonempty (Buf (Elt F) ℓ) := ⟨f₀⟩
  have h1 := bigSep_exists_pi (Finset.univ : Finset (Fin n)) (fun t (f : Buf (Elt F) ℓ) => (ℓ ↦[P t]{fullShare} f : sProp 𝕄))
  have h2 := fun fs : Fin n → Buf (Elt F) ℓ => (pointsTo_biUnion_join Finset.univ P fs f₀ (parts_disjoint P p hP) (q := fullShare) : _ ⊢ (_ : sProp 𝕄))
  rw [parts_cover P p hP] at h2
  iintro H
  ihave H := h1 $$ H
  icases H with ⟨%fs, H⟩
  ihave H := (h2 fs) $$ H
  icases H with ⟨%g, -, H⟩
  iexists g; iexact H
end Parts

/-- A family over two runs of numbers. -/
theorem fin_split (m n : ℕ) (A : ℕ → sProp 𝕄) : bigSep Finset.univ (fun t : Fin (m + n) => A t.val)
    = iprop(bigSep Finset.univ (fun t : Fin m => A t.val) ∗ bigSep Finset.univ (fun t : Fin n => A (m + t.val))) := by
  rw [bigSep_univ_equiv finSumFinEquiv, bigSep_univ_sum]; rfl

/-- The 32 bands are the partner's chunks and the buddy's. -/
theorem bands (A : ℕ → sProp 𝕄) : bigSep Finset.univ (fun t : Fin 32 => A t.val)
    = iprop(bigSep Finset.univ (fun k : Fin 16 => A (bx c k.val)) ∗ bigSep Finset.univ (fun k : Fin 16 => A (byy c k.val))) := by
  have h := fin_split 16 16 A
  rcases (by omega : c.val / 4 % 2 = 0 ∨ c.val / 4 % 2 = 1) with e | e
  · rw [show bigSep Finset.univ (fun t : Fin 32 => A t.val) = _ from h]
    congr 1
    · exact bigSep_congr fun k _ => by unfold bx; rw [e]; congr 1; omega
    · exact bigSep_congr fun k _ => by unfold byy; rw [e]
  · rw [show bigSep Finset.univ (fun t : Fin 32 => A t.val) = _ from h]
    rw [show iprop(bigSep Finset.univ (fun k : Fin 16 => A (bx c k.val)) ∗ bigSep Finset.univ (fun k : Fin 16 => A (byy c k.val)))
      = iprop(bigSep Finset.univ (fun k : Fin 16 => A (byy c k.val)) ∗ bigSep Finset.univ (fun k : Fin 16 => A (bx c k.val))) from
        equiv_iff.mp ⟨Idealize.SL.BI.sep_comm, Idealize.SL.BI.sep_comm⟩]
    congr 1
    · exact bigSep_congr fun k _ => by unfold byy; rw [e]; congr 1; omega
    · exact bigSep_congr fun k _ => by unfold bx; rw [e]

def bandOf (i : S8192x1024.Idx) : Fin 32 := ⟨(i 0).val / 256, by have : (i 0).val < 8192 := (i 0).isLt; omega⟩
theorem mem_band (t : Fin 32) (i : S8192x1024.Idx) : i ∈ band t.val ↔ bandOf i = t := by
  unfold band bandOf; rw [Finset.mem_filter, Fin.ext_iff]; exact ⟨fun h => h.2, fun h => ⟨Finset.mem_univ _, h⟩⟩
def slabOf (i : S12x256x1024.Idx) : Fin 12 := ⟨(i 0).val, (i 0).isLt⟩
theorem mem_slab (t : Fin 12) (i : S12x256x1024.Idx) : i ∈ slab t.val ↔ slabOf i = t := by
  unfold slab slabOf; rw [Finset.mem_filter, Fin.ext_iff]; exact ⟨fun h => h.2, fun h => ⟨Finset.mem_univ _, h⟩⟩
def xpartOf (i : S1x8192x2048.Idx) : Fin 18 := ⟨xcls c i, by unfold xcls; split_ifs <;> omega⟩
theorem mem_xpart (t : Fin 18) (i : S1x8192x2048.Idx) : i ∈ xpart c t.val ↔ xpartOf c i = t := by
  unfold xpart xpartOf; rw [Finset.mem_filter, Fin.ext_iff]; exact ⟨fun h => h.2, fun h => ⟨Finset.mem_univ _, h⟩⟩

/-- The argument in its chunks, the kept half and the rest. -/
theorem x_parts : ((xL c) ↦{fullShare} (X c : Buf (Elt F) (xL c)) : sProp 𝕄)
    = iprop(bigSep Finset.univ (fun k : Fin 16 => xP X c k.val) ∗ xP X c 16 ∗ xP X c 17) := by
  rw [parts (F := F) (ℓ := xL c) (fun t : Fin 18 => xpart c t.val) (xpartOf c) (mem_xpart c)]
  refine (fin_split 16 2 (xP X c)).trans ?_
  rw [bigSep_univ_two]; rfl
/-- The accumulator in its bands, -/
theorem acc_parts (f : S8192x1024.Idx → Elt F .f32) : ((accL c) ↦{fullShare} (f : Buf (Elt F) (accL c)) : sProp 𝕄)
    = iprop(bigSep Finset.univ (fun k : Fin 16 => accP c (bx c k.val) f) ∗ bigSep Finset.univ (fun k : Fin 16 => accP c (byy c k.val) f)) := by
  rw [parts (F := F) (ℓ := accL c) (fun t : Fin 32 => band t.val) bandOf mem_band]
  exact bands c fun n => accP c n f
/-- and the result in its. -/
theorem out_parts (f : S8192x1024.Idx → Elt F .f32) : ((outL c) ↦{fullShare} (f : Buf (Elt F) (outL c)) : sProp 𝕄)
    = iprop(bigSep Finset.univ (fun k : Fin 16 => outP c (bx c k.val) f) ∗ bigSep Finset.univ (fun k : Fin 16 => outP c (byy c k.val) f)) := by
  rw [parts (F := F) (ℓ := outL c) (fun t : Fin 32 => band t.val) bandOf mem_band]
  exact bands c fun n => outP c n f
theorem out_any : iprop(∃ f : Buf (Elt F) (outL c), (outL c) ↦{fullShare} f)
    ⊢ (iprop(bigSep Finset.univ (fun k : Fin 16 => outA c (bx c k.val)) ∗ bigSep Finset.univ (fun k : Fin 16 => outA c (byy c k.val))) : sProp 𝕄) := by
  have h : ∀ n f, (outP c n f : sProp 𝕄) ⊢ outA c n := by
    intro n f; unfold outA; iintro H; iexists f; iexact H
  iintro ⟨%f, H⟩
  ihave H := (Entails.of_eq (out_parts c f)) $$ H
  icases H with ⟨H1, H2⟩
  have h1 : bigSep Finset.univ (fun k : Fin 16 => (outP c (bx c k.val) f : sProp 𝕄)) ⊢ bigSep Finset.univ (fun k : Fin 16 => outA c (bx c k.val)) := bigSep_mono fun k _ => h _ _
  have h2 : bigSep Finset.univ (fun k : Fin 16 => (outP c (byy c k.val) f : sProp 𝕄)) ⊢ bigSep Finset.univ (fun k : Fin 16 => outA c (byy c k.val)) := bigSep_mono fun k _ => h _ _
  isplitl [H1]
  · iapply h1; iexact H1
  · iapply h2; iexact H2
/-- A receive buffer in its slots, and back. -/
theorem xs_any : iprop(∃ f : Buf (Elt F) (xcL c), (xcL c) ↦{fullShare} f) ⊢ (bigSep Finset.univ (fun s : Fin 12 => xsA c s.val) : sProp 𝕄) := by
  have h : ∀ n f, (xsP c n fullShare f : sProp 𝕄) ⊢ xsA c n := by
    intro n f; unfold xsA; iintro H; iexists f; iexact H
  iintro ⟨%f, H⟩
  ihave H := (Entails.of_eq (parts (F := F) (ℓ := xcL c) (fun t : Fin 12 => slab t.val) slabOf mem_slab f)) $$ H
  have h1 : bigSep Finset.univ (fun s : Fin 12 => (xsP c s.val fullShare f : sProp 𝕄)) ⊢ bigSep Finset.univ (fun s : Fin 12 => xsA c s.val) := bigSep_mono fun k _ => h _ _
  iapply h1; iexact H
theorem ys_any : iprop(∃ f : Buf (Elt F) (ycL c), (ycL c) ↦{fullShare} f) ⊢ (bigSep Finset.univ (fun s : Fin 12 => ysA c s.val) : sProp 𝕄) := by
  have h : ∀ n f, (ysP c n fullShare f : sProp 𝕄) ⊢ ysA c n := by
    intro n f; unfold ysA; iintro H; iexists f; iexact H
  iintro ⟨%f, H⟩
  ihave H := (Entails.of_eq (parts (F := F) (ℓ := ycL c) (fun t : Fin 12 => slab t.val) slabOf mem_slab f)) $$ H
  have h1 : bigSep Finset.univ (fun s : Fin 12 => (ysP c s.val fullShare f : sProp 𝕄)) ⊢ bigSep Finset.univ (fun s : Fin 12 => ysA c s.val) := bigSep_mono fun k _ => h _ _
  iapply h1; iexact H
theorem any_xs (f₀ : S12x256x1024.Idx → Elt F .f32) : (bigSep Finset.univ (fun s : Fin 12 => xsA c s.val) : sProp 𝕄) ⊢ iprop(∃ f : Buf (Elt F) (xcL c), (xcL c) ↦{fullShare} f) :=
  parts_any (F := F) (ℓ := xcL c) (fun t : Fin 12 => slab t.val) slabOf mem_slab f₀
theorem any_ys (f₀ : S12x256x1024.Idx → Elt F .f32) : (bigSep Finset.univ (fun s : Fin 12 => ysA c s.val) : sProp 𝕄) ⊢ iprop(∃ f : Buf (Elt F) (ycL c), (ycL c) ↦{fullShare} f) :=
  parts_any (F := F) (ℓ := ycL c) (fun t : Fin 12 => slab t.val) slabOf mem_slab f₀

/-- The last chunk a slot holds. -/
def lastIn : Fin 12 ↪ Fin 16 := ⟨fun s => if h : s.val < 4 then ⟨s.val + 12, by omega⟩ else ⟨s.val, by omega⟩, by decide⟩
theorem slots_last (A : ℕ → sProp 𝕄) : iv 4 16 (fun k : Fin 16 => A (slot k).val) = bigSep Finset.univ (fun s : Fin 12 => A s.val) := by
  unfold iv
  rw [show (Finset.univ.filter fun k : Fin 16 => 4 ≤ k.val ∧ k.val < 16) = Finset.univ.map lastIn from by decide, bigSep_map]
  refine bigSep_congr fun s _ => ?_
  show A (slot (lastIn s)).val = _
  rw [(by decide : ∀ s : Fin 12, (slot (lastIn s)).val = s.val) s]

/-! ## A family over a core's cells -/

/-- The kinds by their numbers. -/
def ckSum : (Fin 4 ⊕ Fin 16 ⊕ Fin 12 ⊕ Fin 16 ⊕ Fin 12 ⊕ Fin 16 ⊕ Fin 16) ≃ CK where
  toFun
    | .inl j => match j with | 0 => .bar | 1 => .xcr | 2 => .ycr | 3 => .loc
    | .inr (.inl k) => .xsend k | .inr (.inr (.inl s)) => .xrecv s | .inr (.inr (.inr (.inl k))) => .ysend k
    | .inr (.inr (.inr (.inr (.inl s)))) => .yrecv s | .inr (.inr (.inr (.inr (.inr (.inl k))))) => .xout k | .inr (.inr (.inr (.inr (.inr (.inr k))))) => .yout k
  invFun
    | .bar => .inl 0 | .xcr => .inl 1 | .ycr => .inl 2 | .loc => .inl 3
    | .xsend k => .inr (.inl k) | .xrecv s => .inr (.inr (.inl s)) | .ysend k => .inr (.inr (.inr (.inl k)))
    | .yrecv s => .inr (.inr (.inr (.inr (.inl s)))) | .xout k => .inr (.inr (.inr (.inr (.inr (.inl k))))) | .yout k => .inr (.inr (.inr (.inr (.inr (.inr k)))))
  left_inv := by
    rintro (j | k | k | k | k | k | k)
    · fin_cases j <;> rfl
    all_goals rfl
  right_inv := by rintro (_ | _ | _ | _ | k | k | k | k | k | k) <;> rfl

/-- A family over all kinds, kind by kind. -/
theorem ck_split (A : CK → sProp 𝕄) : bigSep Finset.univ A
    = iprop((A .bar ∗ A .xcr ∗ A .ycr ∗ A .loc) ∗ bigSep Finset.univ (fun k => A (.xsend k)) ∗ bigSep Finset.univ (fun s => A (.xrecv s))
        ∗ bigSep Finset.univ (fun k => A (.ysend k)) ∗ bigSep Finset.univ (fun s => A (.yrecv s)) ∗ bigSep Finset.univ (fun k => A (.xout k)) ∗ bigSep Finset.univ (fun k => A (.yout k))) := by
  have h4 : ∀ Φ : Fin 4 → sProp 𝕄, bigSep Finset.univ Φ = iprop(Φ 0 ∗ Φ 1 ∗ Φ 2 ∗ Φ 3) := fun Φ => bigSep_univ_eq_bigSepL [0, 1, 2, 3] (by decide) (by decide) Φ
  rw [bigSep_univ_equiv ckSum, bigSep_univ_sum, bigSep_univ_sum, bigSep_univ_sum, bigSep_univ_sum, bigSep_univ_sum, bigSep_univ_sum, h4]
  rfl

/-! ## What a core starts from -/

/-- The tokens of the instalments a core pays. -/
def Toks : sProp 𝕄 := iprop(dutyTok ER (cell (px c) .bar) 0 0 ∗ dutyTok ER (cell (py c) .bar) 0 1 ∗ dutyTok ER (cell c .loc) 0 0
  ∗ bigSep Finset.univ (fun i : Fin 4 => dutyTok ER (cell (px c) .xcr) 0 i) ∗ bigSep Finset.univ (fun i : Fin 4 => dutyTok ER (cell (py c) .ycr) 0 i)
  ∗ bigSep Finset.univ (fun k : Fin 16 => dutyTok ER (cell (px c) (.xrecv (slot k))) (k.val / 12) 0) ∗ bigSep Finset.univ (fun k : Fin 16 => dutyTok ER (cell c (.xsend k)) 0 0)
  ∗ bigSep Finset.univ (fun k : Fin 16 => dutyTok ER (cell (py c) (.yrecv (slot k))) (k.val / 12) 0) ∗ bigSep Finset.univ (fun k : Fin 16 => dutyTok ER (cell c (.ysend k)) 0 0)
  ∗ bigSep Finset.univ (fun k : Fin 16 => dutyTok ER (cell c (.xout k)) 0 0) ∗ bigSep Finset.univ (fun k : Fin 16 => dutyTok ER (cell c (.yout k)) 0 0))
/-- The credit for what its peers owe it. -/
def Crds : sProp 𝕄 := iprop(cred (tallyAt (cell c .bar) 0 2)
  ∗ bigSep Finset.univ (fun i : Fin 4 => cred (tallyAt (cell c .xcr) (i4 i) 1)) ∗ bigSep Finset.univ (fun i : Fin 4 => cred (tallyAt (cell c .ycr) (i4 i) 1))
  ∗ bigSep Finset.univ (fun k : Fin 16 => cred (tallyAt (cell c (.xrecv (slot k))) k N)) ∗ bigSep Finset.univ (fun k : Fin 16 => cred (tallyAt (cell c (.yrecv (slot k))) k N)))
/-- Its side of the slots that are handed back. -/
def Slots : sProp 𝕄 := iprop(bigSep Finset.univ (fun i : Fin 4 => Release.readerAt ES ((c, false, i) : Key) 0) ∗ bigSep Finset.univ (fun i : Fin 4 => Release.readerAt ES ((c, true, i) : Key) 0)
  ∗ bigSep Finset.univ (fun i : Fin 4 => Release.writeTok ES ((px c, false, i) : Key) 1) ∗ bigSep Finset.univ (fun i : Fin 4 => Release.writeTok ES ((py c, true, i) : Key) 1))
/-- Its scratch buffers at any contents. -/
def Scr : sProp 𝕄 := iprop((∃ f : Buf (Elt F) (accL c), (accL c) ↦{fullShare} f) ∗ (∃ f : Buf (Elt F) (xcL c), (xcL c) ↦{fullShare} f)
  ∗ (∃ f : Buf (Elt F) (ycL c), (ycL c) ↦{fullShare} f))
/-- Everything a core starts from but what it owes. -/
def Start : sProp 𝕄 := iprop(bigSep Finset.univ (fun k : CK => atPos ER (cell c k) 0 ∅ 0) ∗ Toks c ∗ Crds c ∗ Slots c
  ∗ ((xL c) ↦{fullShare} (X c : Buf (Elt F) (xL c))) ∗ (∃ f : Buf (Elt F) (outL c), (outL c) ↦{fullShare} f) ∗ Scr c)
/-- Everything it ends with. -/
def End : sProp 𝕄 := iprop(bigSep Finset.univ (fun k : CK => semVal (cell c k) 0)
  ∗ ((xL c) ↦{fullShare} (X c : Buf (Elt F) (xL c))) ∗ ((outL c) ↦{fullShare} (fin X c : Buf (Elt F) (outL c))) ∗ Scr c)

/-- What the partner's chunks take but for the accumulator, -/
def RX0 (k : Fin 16) : sProp 𝕄 := iprop(cred (tallyAt (cell c (.xrecv (slot k))) k N) ∗ dutyTok ER (cell (py c) (.yrecv (slot k))) (k.val / 12) 0
  ∗ dutyTok ER (cell c (.ysend k)) 0 0 ∗ dutyTok ER (cell c (.xout k)) 0 0 ∗ atPos ER (cell c (.xout k)) 0 ∅ 0 ∗ outA c (bx c k.val))
/-- and the buddy's. -/
def RY0 (k : Fin 16) : sProp 𝕄 := iprop(cred (tallyAt (cell c (.yrecv (slot k))) k N) ∗ dutyTok ER (cell c (.yout k)) 0 0 ∗ atPos ER (cell c (.yout k)) 0 ∅ 0
  ∗ outA c (byy c k.val) ∗ atPos ER (cell c (.ysend k)) 0 ∅ 0)

theorem RX_all : iprop(bigSep Finset.univ (RX0 (F := F) c) ∗ bigSep Finset.univ (fun k : Fin 16 => accP c (bx c k.val) (own X c))) ⊢ iv 0 16 (RX X c) := by
  rw [← iv_all, ← bigSep_sep']
  have h : ∀ k : Fin 16, iprop(RX0 (F := F) c k ∗ accP c (bx c k.val) (own X c)) ⊢ RX X c k := by
    intro k
    unfold RX0 RX
    iintro ⟨⟨H1, H2, H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7
  exact bigSep_mono fun k _ => h k
theorem RY_all : iprop(bigSep Finset.univ (RY0 (F := F) c) ∗ bigSep Finset.univ (fun k : Fin 16 => accP c (byy c k.val) (own X c))) ⊢ iv 0 16 (RY X c) := by
  rw [← iv_all, ← bigSep_sep']
  have h : ∀ k : Fin 16, iprop(RY0 (F := F) c k ∗ accP c (byy c k.val) (own X c)) ⊢ RY X c k := by
    intro k
    unfold RY0 RY
    iintro ⟨⟨H1, H2, H3, H4, H5⟩, H7⟩
    isplitl [H1]; · iexact H1
    isplitl [H2]; · iexact H2
    isplitl [H3]; · iexact H3
    isplitl [H4]; · iexact H4
    isplitl [H7]; · iexact H7
    iexact H5
  exact bigSep_mono fun k _ => h k

theorem PX_0 : bigSep Finset.univ (fun s : Fin 12 => atPos ER (cell c (.xrecv s)) 0 ∅ 0) = (PX c 0 : sProp 𝕄) := by
  unfold PX; exact bigSep_congr fun s _ => by rw [show rc 0 s = 0 from (by decide : ∀ s, rc 0 s = 0) s]
theorem PY_0 : bigSep Finset.univ (fun s : Fin 12 => atPos ER (cell c (.yrecv s)) 0 ∅ 0) = (PY c 0 : sProp 𝕄) := by
  unfold PY; exact bigSep_congr fun s _ => by rw [show rc 0 s = 0 from (by decide : ∀ s, rc 0 s = 0) s]
theorem PX_16 : (PX c 16 : sProp 𝕄) = bigSep Finset.univ (fun s : Fin 12 => atPos ER (cell c (.xrecv s)) (rounds (.xrecv s)) ∅ 0) := by
  unfold PX; exact bigSep_congr fun s _ => by rw [show rc 16 s = rounds (.xrecv s) from (by decide : ∀ s, rc 16 s = rounds (.xrecv s)) s]
theorem PY_16 : (PY c 16 : sProp 𝕄) = bigSep Finset.univ (fun s : Fin 12 => atPos ER (cell c (.yrecv s)) (rounds (.yrecv s)) ∅ 0) := by
  unfold PY; exact bigSep_congr fun s _ => by rw [show rc 16 s = rounds (.yrecv s) from (by decide : ∀ s, rc 16 s = rounds (.yrecv s)) s]

/-- What the loops start from, before the accumulator is filled. -/
def Fams : sProp 𝕄 := iprop(bigSep Finset.univ (TX X c) ∗ bigSep Finset.univ (RX0 c) ∗ bigSep Finset.univ (RY0 c) ∗ bigSep Finset.univ (VX c) ∗ bigSep Finset.univ (VY c)
  ∗ bigSep Finset.univ (GY c) ∗ PX c 0 ∗ PY c 0 ∗ atPos ER (cell c .xcr) 0 ∅ 0 ∗ atPos ER (cell c .ycr) 0 ∅ 0)

/-- What a core starts from, sorted by the steps that use it. -/
theorem start_split : Start X c ⊢ iprop((atPos ER (cell c .bar) 0 ∅ 0 ∗ atPos ER (cell c .loc) 0 ∅ 0 ∗ dutyTok ER (cell (px c) .bar) 0 0 ∗ dutyTok ER (cell (py c) .bar) 0 1
      ∗ dutyTok ER (cell c .loc) 0 0 ∗ cred (tallyAt (cell c .bar) 0 2) ∗ xP X c 16 ∗ xP X c 17) ∗ Fams X c ∗ Scr c) := by
  unfold Start Fams Toks Crds Slots TX RX0 RY0 VX VY GY
  rw [ck_split, x_parts, ← PX_0, ← PY_0]
  simp only [bigSep_sep']
  iintro ⟨⟨⟨Abar, Axcr, Aycr, Aloc⟩, Axsend, Axrecv, Aysend, Ayrecv, Axout, Ayout⟩, ⟨Tbx, Tby, Tloc, Txcr, Tycr, Txrecv, Txsend, Tyrecv, Tysend, Txout, Tyout⟩,
    ⟨Cbar, Cxcr, Cycr, Cxrecv, Cyrecv⟩, ⟨R1, R2, W1, W2⟩, ⟨Hx, Hx16, Hx17⟩, Hout, HS⟩
  ihave Ho := (out_any c) $$ Hout
  icases Ho with ⟨Ho1, Ho2⟩
  isplitl [Abar Aloc Tbx Tby Tloc Cbar Hx16 Hx17]
  · isplitl [Abar]; · iexact Abar
    isplitl [Aloc]; · iexact Aloc
    isplitl [Tbx]; · iexact Tbx
    isplitl [Tby]; · iexact Tby
    isplitl [Tloc]; · iexact Tloc
    isplitl [Cbar]; · iexact Cbar
    isplitl [Hx16] <;> iassumption
  isplitr [HS]
  · isplitl [Txrecv Txsend Hx Axsend]
    · isplitl [Txrecv]; · iexact Txrecv
      isplitl [Txsend]; · iexact Txsend
      isplitl [Hx] <;> iassumption
    isplitl [Cxrecv Tyrecv Tysend Txout Axout Ho1]
    · isplitl [Cxrecv]; · iexact Cxrecv
      isplitl [Tyrecv]; · iexact Tyrecv
      isplitl [Tysend]; · iexact Tysend
      isplitl [Txout]; · iexact Txout
      isplitl [Axout] <;> iassumption
    isplitl [Cyrecv Tyout Ayout Ho2 Aysend]
    · isplitl [Cyrecv]; · iexact Cyrecv
      isplitl [Tyout]; · iexact Tyout
      isplitl [Ayout]; · iexact Ayout
      isplitl [Ho2] <;> iassumption
    isplitl [W1 R1 Txcr Cxcr]
    · isplitl [W1]; · iexact W1
      isplitl [R1]; · iexact R1
      isplitl [Txcr] <;> iassumption
    isplitl [W2 Cycr]
    · isplitl [W2] <;> iassumption
    isplitl [R2 Tycr]
    · isplitl [R2] <;> iassumption
    isplitl [Axrecv]; · iexact Axrecv
    isplitl [Ayrecv]; · iexact Ayrecv
    isplitl [Axcr] <;> iassumption
  iexact HS

/-- With the accumulator filled and the first chunks sent, this is what the loops start from. -/
theorem st_start : iprop(Owes c (owe c 12 0 0 0) ∗ (iv 12 16 (TX X c) ∗ iv 0 12 (CS c)) ∗ (bigSep Finset.univ (RX0 c) ∗ bigSep Finset.univ (RY0 c) ∗ bigSep Finset.univ (VX c) ∗ bigSep Finset.univ (VY c)
      ∗ bigSep Finset.univ (GY c) ∗ PX c 0 ∗ PY c 0 ∗ atPos ER (cell c .xcr) 0 ∅ 0 ∗ atPos ER (cell c .ycr) 0 ∅ 0) ∗ bigSep Finset.univ (UY c)
      ∗ ((accL c) ↦{fullShare} (own X c : Buf (Elt F) (accL c)))) ⊢ st X c 0 0 := by
  rw [acc_parts, iv_all (VX c), iv_all (VY c), iv_all (GY c), iv_all (UY c)]
  unfold st SX SY ZX ZY ZC
  have e1 : min 4 0 = 0 := rfl
  have e2 : 0 - 12 = 0 := rfl
  rw [e1, e2, Nat.zero_add, iv_nil (FX c) (le_refl 0), iv_nil (MX X c) (le_refl 0), iv_nil (KX c) (Nat.zero_le 4), iv_nil (KY c) (Nat.zero_le 4), iv_nil (FY c) (le_refl 0)]
  have hf : ∀ b, facts (F := F) c b 0 = iprop(emp) := fun b => by unfold facts; exact iv_nil _ (le_refl 0)
  rw [hf, hf]
  iintro ⟨HO, ⟨HT, HC⟩, ⟨HRX, HRY, HVX, HVY, HGY, HPX, HPY, Hx, Hy⟩, HU, ⟨Ha, Hb⟩⟩
  isplitl [HO]; · iexact HO
  isplitl [HRX Ha HPX HU HVY Hy]
  · isplitl [HRX Ha]
    · iapply (RX_all X c); isplitl [HRX] <;> iassumption
    isplitl [HPX]; · iexact HPX
    isplitl [HU HVY Hy]
    · isplitl [HU]; · iexact HU
      isplitl [HVY]; · iexact HVY
      iapply (credits_zero X c .ycr); iexact Hy
    iempintro
  isplitr; · iempintro
  isplitl [HT HVX HC Hx]
  · isplitl [HT]; · iexact HT
    isplitl [HVX]; · iexact HVX
    isplitl [HC]; · iexact HC
    isplitl [Hx]; · iapply (credits_zero X c .xcr); iexact Hx
    iempintro
  isplitr; · iempintro
  isplitl [HRY Hb]
  · iapply (RY_all X c); isplitl [HRY] <;> iassumption
  isplitl [HPY]; · iexact HPY
  isplitl [HGY]
  · isplitl [HGY]; · iexact HGY
    iempintro
  isplitr <;> iempintro

end Cert.KernelIdeal.Own
end
-- ==== Proof.Ideal.Whole.lean ====
/- The whole body of a core, from what it starts from to what it ends with. -/
module

public import proofs.«01_k».proof.Proof.Ideal.Pieces

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (X : Dev nD → S1x8192x2048.Idx → Elt F .f32) (κ : Dev nD × CK → ℕ) (ν : Key → ℕ) (c : Dev nD)

/-! ## The start -/

/-- The wait for both peers' first signals: their receive buffers are the core's to write into. -/
theorem w_takeBar (a b g h : ℕ) (K : KProg F) (Q : PUnit → sProp 𝕄) :
    iprop(ctx X κ ν ∗ Owes c (owe c a b g h) ∗ cred (tallyAt (cell c .bar) 0 2) ∗ atPos ER (cell c .bar) 0 ∅ 0)
      ⊢ iprop(((Owes c (owe c a b g h) ∗ atPos ER (cell c .bar) 1 ∅ 0 ∗ bigSep Finset.univ (UX (F := F) c) ∗ bigSep Finset.univ (UY (F := F) c)) -∗ W c K Q)
          -∗ W c (take barS 2#32 K) Q) := by
  have hm' : ctx X κ ν ⊢ MayWait (Dev.tc c : Thread nD τ) (CK.bar).sem 0 (owe c a b g h) := (@ctx_lev F _ X κ ν).trans (may_low c .bar (fun _ => rfl) 0 a b g h)
  have e : bigSep ((Rd (F := F) X).duties (cell c .bar) 0 \ ∅) (fun d => (Rd X).payload (cell c .bar) 0 d)
      = iprop(bigSep Finset.univ (UX (F := F) c) ∗ bigSep Finset.univ (UY (F := F) c)) := by
    rw [Rd_duties, Finset.sdiff_empty, show dset .bar 0 = insert 0 {1} from rfl, bigSep_insert (by decide), bigSep_singleton, Rd_payload, Rd_payload]; rfl
  unfold Owes take
  iintro ⟨#Hc, ⟨%V, HO⟩, Hcr, Hat⟩ HK
  ihave Hce := (ctx_cell X κ ν c .bar) $$ Hc
  icases Hce with ⟨#Hi, -⟩
  iapply (Rounds.wp_wait_rest_token 𝒱₀ ER (Rd X) (Dev.tc c : Thread nD τ) none (w := .semWait barS (2#32).toInt) (sm := (CK.bar).sem) (k' := 2)
    (fun K => wpE_semWait_eq 𝒱₀ (Dev.tc c : Thread nD τ) none Set.univ K) (Set.mem_univ (κ (c, .bar))) 0 (O := owe c a b g h) (W := V) (R := 0) (m := 0) (T := ∅)
    (by rw [Rd_expect X c .bar 0]; rfl)) $$ [HO Hcr Hat]
  · isplitr; · iexact Hi
    isplitl [Hcr]; · iexact Hcr
    isplitl [HO]; · iexact HO
    isplitr; · iapply hm'; iexact Hc
    iexact Hat
  iintro ⟨HO, Hat, -, Hp⟩
  ihave Hp := (Entails.of_eq e) $$ Hp
  icases Hp with ⟨H1, H2⟩
  iapply HK
  isplitl [HO]; · iexists _; iexact HO
  isplitl [Hat]; · iexact Hat
  isplitl [H1] <;> iassumption

/-- Between the first sends. -/
def IS (a : ℕ) : sProp 𝕄 := iprop(Owes c (owe c a 0 0 0) ∗ iv a 16 (TX X c) ∗ iv a 12 (UX c) ∗ iv 0 a (CS c))

theorem w_IS (k : Fin 16) (h : k.val < 12) (K : KProg F) (Q : PUnit → sProp 𝕄) :
    iprop(ctx X κ ν ∗ IS X c k.val) ⊢ iprop((IS X c (k.val + 1) -∗ W c K Q) -∗ W c (sendX c k K) Q) := by
  have hT := iv_take (TX X c) k (i := 16) k.isLt
  have hU := iv_take (UX (F := F) c) ⟨k.val, h⟩ (i := 12) h
  have hC := iv_put (CS (F := F) c) k (l := 0) (Nat.zero_le _)
  have hsnd := w_sendX X κ ν c k (owe c (k.val + 1) 0 0 0) K Q
  have es : (slot k).val = k.val := Nat.mod_eq_of_lt h
  have ek : k.val / 12 = 0 := by omega
  have hr := ctx_cell X κ ν (px c) (.xrecv (slot k))
  rw [← owe_a, es, ek] at hsnd
  unfold IS
  iintro ⟨#Hc, HO, HT, HU, HC⟩ HK
  ihave HT := hT $$ HT
  unfold TX
  rw [ek]
  icases HT with ⟨⟨Ht1, Ht2, Hx, Hat⟩, HT⟩
  ihave HU := hU $$ HU
  icases HU with ⟨HU1, HU⟩
  ihave Hr := hr $$ Hc
  icases Hr with ⟨-, #Hr⟩
  iapply hsnd $$ [HO Ht1 Ht2 Hx HU1]
  · isplitr; · iexact Hc
    isplitl [HO]; · iexact HO
    isplitl [Ht1]; · iexact Ht1
    isplitr; · iexact Hr
    isplitl [Ht2]; · iexact Ht2
    isplitl [Hx]; · iexact Hx
    unfold UX; iexact HU1
  iintro ⟨HO, Hcd⟩
  iapply HK
  isplitl [HO]; · iexact HO
  isplitl [HT]; · iexact HT
  isplitl [HU]; · iexact HU
  iapply hC
  isplitl [HC]; · iexact HC
  unfold CS
  isplitl [Hcd] <;> iassumption

/-! ## The end -/

/-- A chunk's own part back, -/
def DS (k : Fin 16) : sProp 𝕄 := iprop(xP X c k.val ∗ atPos ER (cell c (.xsend k)) 1 ∅ 0)
/-- the partner's chunk copied out, -/
def DX (k : Fin 16) : sProp 𝕄 := iprop(outP c (bx c k.val) (fin X c) ∗ accP c (bx c k.val) (fin X c) ∗ atPos ER (cell c (.xout k)) 1 ∅ 0)
/-- and the buddy's. -/
def DY (k : Fin 16) : sProp 𝕄 := iprop(outP c (byy c k.val) (fin X c) ∗ accP c (byy c k.val) (fin X c) ∗ atPos ER (cell c (.yout k)) 1 ∅ 0 ∗ atPos ER (cell c (.ysend k)) 1 ∅ 0)

/-- Between the waits for the sends, -/
def JS (i : ℕ) : sProp 𝕄 := iprop(Owes c (owe c 16 16 4 4) ∗ iv i 16 (CS c) ∗ iv 0 i (DS X c))
/-- and between the waits for the copies out. -/
def JO (i j : ℕ) : sProp 𝕄 := iprop(Owes c (owe c 16 16 4 4) ∗ (iv i 16 (FX c) ∗ iv 0 i (DX X c)) ∗ (iv j 16 (FY c) ∗ iv 0 j (DY X c)))

theorem w_JS (k : Fin 16) (K : KProg F) (Q : PUnit → sProp 𝕄) :
    iprop(ctx X κ ν ∗ JS X c k.val) ⊢ iprop((JS X c (k.val + 1) -∗ W c K Q) -∗ W c (sentX c k K) Q) := by
  have h1 := iv_take (CS (F := F) c) k (i := 16) k.isLt
  have h2 := iv_put (DS X c) k (l := 0) (Nat.zero_le _)
  unfold JS
  iintro ⟨#Hc, HO, H, HD⟩ HK
  ihave H := h1 $$ H
  unfold CS
  icases H with ⟨⟨Hcr, Hat⟩, H⟩
  iapply (w_sentX X κ ν c k) $$ [HO Hcr Hat]
  · isplitr; · iexact Hc
    isplitl [HO]; · iexact HO
    isplitl [Hcr] <;> iassumption
  iintro ⟨HO, Hat, Hx⟩
  iapply HK
  isplitl [HO]; · iexact HO
  isplitl [H]; · iexact H
  iapply h2
  isplitl [HD]; · iexact HD
  unfold DS
  isplitl [Hx] <;> iassumption

theorem w_JX (k : Fin 16) (j : ℕ) (K : KProg F) (Q : PUnit → sProp 𝕄) :
    iprop(ctx X κ ν ∗ JO X c k.val j) ⊢ iprop((JO X c (k.val + 1) j -∗ W c K Q) -∗ W c (outX c k K) Q) := by
  have h1 := iv_take (FX (F := F) c) k (i := 16) k.isLt
  have h2 := iv_put (DX X c) k (l := 0) (Nat.zero_le _)
  unfold JO
  iintro ⟨#Hc, HO, ⟨H, HD⟩, HR⟩ HK
  ihave H := h1 $$ H
  unfold FX
  icases H with ⟨⟨Hcr, Hat⟩, H⟩
  iapply (w_outX X κ ν c k) $$ [HO Hcr Hat]
  · isplitr; · iexact Hc
    isplitl [HO]; · iexact HO
    isplitl [Hcr] <;> iassumption
  iintro ⟨HO, Hat, Ho, Ha⟩
  iapply HK
  isplitl [HO]; · iexact HO
  isplitr [HR]
  · isplitl [H]; · iexact H
    iapply h2
    isplitl [HD]; · iexact HD
    unfold DX
    isplitl [Ho]; · iexact Ho
    isplitl [Ha] <;> iassumption
  iexact HR

theorem w_JY (k : Fin 16) (i : ℕ) (K : KProg F) (Q : PUnit → sProp 𝕄) :
    iprop(ctx X κ ν ∗ JO X c i k.val) ⊢ iprop((JO X c i (k.val + 1) -∗ W c K Q) -∗ W c (outY c k K) Q) := by
  have h1 := iv_take (FY (F := F) c) k (i := 16) k.isLt
  have h2 := iv_put (DY X c) k (l := 0) (Nat.zero_le _)
  unfold JO
  iintro ⟨#Hc, HO, HR, ⟨H, HD⟩⟩ HK
  ihave H := h1 $$ H
  unfold FY
  icases H with ⟨⟨Hcr, Hat, Hs⟩, H⟩
  iapply (w_outY X κ ν c k) $$ [HO Hcr Hat]
  · isplitr; · iexact Hc
    isplitl [HO]; · iexact HO
    isplitl [Hcr] <;> iassumption
  iintro ⟨HO, Hat, Ho, Ha⟩
  iapply HK
  isplitl [HO]; · iexact HO
  isplitl [HR]; · iexact HR
  isplitl [H]; · iexact H
  iapply h2
  isplitl [HD]; · iexact HD
  unfold DY
  isplitl [Ho]; · iexact Ho
  isplitl [Ha]; · iexact Ha
  isplitl [Hat] <;> iassumption

theorem w_JXY (k : Fin 16) (K : KProg F) (Q : PUnit → sProp 𝕄) :
    iprop(ctx X κ ν ∗ JO X c k.val (k.val - 2)) ⊢ iprop((JO X c (k.val + 1) (k.val + 1 - 2) -∗ W c K Q) -∗ W c (outXY c k K) Q) := by
  unfold outXY
  by_cases h : 2 ≤ k.val
  · have hY := w_JY X κ ν c ⟨k.val - 2, by omega⟩ (k.val + 1) K Q
    have e : k.val + 1 - 2 = k.val - 2 + 1 := by omega
    rw [dif_pos h, e]
    iintro ⟨#Hc, H⟩ HK
    iapply (w_JX X κ ν c k (k.val - 2)) $$ [H]
    · isplitr; · iexact Hc
      iexact H
    iintro H
    iapply hY $$ [H]
    · isplitr; · iexact Hc
      iexact H
    iexact HK
  · have e : k.val + 1 - 2 = k.val - 2 := by omega
    rw [dif_neg h, e]
    exact w_JX X κ ν c k (k.val - 2) K Q

/-- All cells closed: their counters at zero. -/
theorem close_all : iprop(ctx X κ ν ∗ bigSep Finset.univ (fun k : CK => atPos ER (cell c k) (rounds k) ∅ 0))
    ⊢ iprop(|={Set.univ}=> bigSep Finset.univ (fun k : CK => semVal (cell c k) 0)) := by
  have h1 : ∀ k : CK, iprop(ctx X κ ν ∗ atPos ER (cell c k) (rounds k) ∅ 0) ⊢ iprop(|={Set.univ}=> semVal (cell c k) 0) := by
    intro k
    have hR : ∀ r, rounds k ≤ r → (Rd (F := F) X).duties (cell c k) r = ∅ := fun r hr => by rw [Rd_duties]; exact dset_end k r hr
    iintro ⟨#Hc, Hat⟩
    ihave Hce := (ctx_cell X κ ν c k) $$ Hc
    icases Hce with ⟨#Hi, -⟩
    iapply (Rounds.cell_close ER (Rd X) (Set.mem_univ (κ (c, k))) (fun h => h) (R := rounds k) hR)
    isplitr; · iexact Hi
    iexact Hat
  have h2 : iprop(ctx X κ ν ∗ bigSep Finset.univ (fun k : CK => atPos ER (cell c k) (rounds k) ∅ 0)) ⊢ bigSep Finset.univ (fun k : CK => iprop(|={Set.univ}=> semVal (cell c k) 0)) :=
    bigSep_with_persistent fun k _ => h1 k
  exact h2.trans (bigSep_fupd _ _)

/-- From the last wait to what the core ends with. -/
theorem finish : iprop(ctx X κ ν ∗ (atPos ER (cell c .bar) 1 ∅ 0 ∗ atPos ER (cell c .loc) 1 ∅ 0 ∗ xP X c 16 ∗ xP X c 17)
      ∗ (PX c 16 ∗ credits X c .ycr 4) ∗ (credits X c .xcr 4 ∗ iv 4 16 (KX c) ∗ PY c 16 ∗ iv 4 16 (KY c)) ∗ iv 0 16 (DS X c) ∗ iv 0 16 (DX X c) ∗ iv 0 16 (DY X c))
    ⊢ iprop(|={Set.univ}=> End X c) := by
  have hkx : iv 4 16 (KX (F := F) c) = bigSep Finset.univ (fun s : Fin 12 => xsA c s.val) := by unfold KX; exact slots_last (xsA c)
  have hky : iv 4 16 (KY (F := F) c) = bigSep Finset.univ (fun s : Fin 12 => ysA c s.val) := by unfold KY; exact slots_last (ysA c)
  have hcl := close_all X κ ν c
  rw [ck_split] at hcl
  unfold End Scr
  rw [x_parts, out_parts, ← iv_all, ← iv_all (DX X c), ← iv_all (DY X c), hkx, hky, PX_16, PY_16]
  unfold DS DX DY
  simp only [bigSep_sep']
  iintro ⟨#Hc, ⟨Abar, Aloc, Hx16, Hx17⟩, ⟨Axrecv, Hyc⟩, ⟨Hxc, Hkx, Ayrecv, Hky⟩, ⟨Hx, Axsend⟩, ⟨Hox, Hax, Axout⟩, ⟨Hoy, Hay, Ayout, Aysend⟩⟩
  imod (credits_all X κ ν c .xcr (Or.inl rfl)) $$ [Hxc] with Axcr
  · isplitr; · iexact Hc
    iexact Hxc
  imod (credits_all X κ ν c .ycr (Or.inr rfl)) $$ [Hyc] with Aycr
  · isplitr; · iexact Hc
    iexact Hyc
  imod hcl $$ [Abar Aloc Axcr Aycr Axsend Axrecv Aysend Ayrecv Axout Ayout] with Hz
  · isplitr; · iexact Hc
    isplitl [Abar Aloc Axcr Aycr]
    · isplitl [Abar]; · iexact Abar
      isplitl [Axcr]; · iexact Axcr
      isplitl [Aycr]; · iexact Aycr
      iexact Aloc
    isplitl [Axsend]; · iexact Axsend
    isplitl [Axrecv]; · iexact Axrecv
    isplitl [Aysend]; · iexact Aysend
    isplitl [Ayrecv]; · iexact Ayrecv
    isplitl [Axout]; · iexact Axout
    iexact Ayout
  imodintro
  isplitl [Hz]; · iexact Hz
  isplitl [Hx Hx16 Hx17]
  · isplitl [Hx]; · iexact Hx
    isplitl [Hx16] <;> iassumption
  isplitl [Hox Hoy]
  · isplitl [Hox] <;> iassumption
  isplitl [Hax Hay]
  · iexists (fin X c)
    iapply (Entails.of_eq (acc_parts c (fin X c)).symm)
    isplitl [Hax] <;> iassumption
  isplitl [Hkx]
  · iapply (any_xs c (xin X c 0)); iexact Hkx
  · iapply (any_ys c (xin X c 0)); iexact Hky

/-- When all chunks are dealt with, what is left to wait for and what is back. -/
theorem st_end : st X c 16 16 ⊢ iprop(Owes c (owe c 16 16 4 4) ∗ (PX c 16 ∗ credits X c .ycr 4) ∗ (credits X c .xcr 4 ∗ iv 4 16 (KX c) ∗ PY c 16 ∗ iv 4 16 (KY c))
    ∗ iv 0 16 (CS c) ∗ iv 0 16 (FX c) ∗ iv 0 16 (FY c)) := by
  unfold st SX SY ZX ZY ZC
  have e1 : min 4 16 = 4 := rfl
  have e2 : 16 - 12 = 4 := rfl
  rw [e1, e2, show 4 + 12 = 16 from rfl]
  iintro ⟨HO, ⟨-, HPX, ⟨-, -, Hyc⟩, HFX⟩, -, ⟨-, -, HCS, Hxc, -⟩, HKX, -, HPY, -, HKY, HFY⟩
  isplitl [HO]; · iexact HO
  isplitl [HPX Hyc]
  · isplitl [HPX] <;> iassumption
  isplitl [Hxc HKX HPY HKY]
  · isplitl [Hxc]; · iexact Hxc
    isplitl [HKX]; · iexact HKX
    isplitl [HPY] <;> iassumption
  isplitl [HCS]; · iexact HCS
  isplitl [HFX] <;> iassumption

/-- The body of core `c`: from what the core starts from to what it ends with, owing nothing. -/
theorem w_prog : iprop(ctx X κ ν ∗ Owes c (owe₀ c) ∗ Start X c) ⊢ W c prog (fun _ => iprop(Owes c 0 ∗ End X c)) := by
  have hss := start_split X c
  have hst := st_start X c
  have hend := st_end X c
  have hfin := finish X κ ν c
  have hbx : bigSep Finset.univ (fun s : Fin 12 => xsA c s.val) ⊢ pay X (px c) .bar 0 0 := by
    show _ ⊢ bigSep Finset.univ (fun s : Fin 12 => xsA (px (px c)) s.val); rw [px_px]
  have hby : bigSep Finset.univ (fun s : Fin 12 => ysA c s.val) ⊢ pay X (py c) .bar 0 1 := by
    show _ ⊢ bigSep Finset.univ (fun s : Fin 12 => ysA (py (py c)) s.val); rw [py_py]
  have hIS : iprop(Owes c (owe c 0 0 0 0) ∗ bigSep Finset.univ (TX X c) ∗ bigSep Finset.univ (UX c)) ⊢ IS X c 0 := by
    unfold IS
    rw [iv_all (TX X c), iv_all (UX c), iv_nil (CS c) (le_refl 0)]
    iintro ⟨H1, H2, H3⟩
    isplitl [H1]; · iexact H1
    isplitl [H2]; · iexact H2
    isplitl [H3]; · iexact H3
    iempintro
  have hJO0 : iprop(Owes c (owe c 16 16 4 4) ∗ iv 0 16 (FX c) ∗ iv 0 16 (FY c)) ⊢ JO X c 0 0 := by
    unfold JO
    rw [iv_nil (DX X c) (le_refl 0), iv_nil (DY X c) (le_refl 0)]
    iintro ⟨H1, H2, H3⟩
    isplitl [H1]; · iexact H1
    isplitl [H2]
    · isplitl [H2]; · iexact H2
      iempintro
    isplitl [H3]; · iexact H3
    iempintro
  have hJS0 : iprop(Owes c (owe c 16 16 4 4) ∗ iv 0 16 (CS c)) ⊢ JS X c 0 := by
    unfold JS
    rw [iv_nil (DS X c) (le_refl 0)]
    iintro ⟨H1, H2⟩
    isplitl [H1]; · iexact H1
    isplitl [H2]; · iexact H2
    iempintro
  unfold Fams at hss
  unfold Scr at hss
  unfold prog owe₀
  show _ ⊢ wp frame _ _ _ _
  rw [wp_deviceId]
  iintro ⟨#Hc, HO, HS⟩
  ihave HS := hss $$ HS
  icases HS with ⟨⟨Abar, Aloc, Tbx, Tby, Tloc, Cbar, Hx16, Hx17⟩, ⟨HT, HF⟩, ⟨Hacc, Hxc, Hyc⟩⟩
  iapply (w_give X κ ν c (px c) barS .bar rfl rfl 0 (by decide) 0 (owe c 0 0 0 0 + tallyAt (cell (py c) .bar) 0 1)) $$ [HO Tbx Hxc]
  · isplitr; · iexact Hc
    isplitl [HO]; · iexact HO
    isplitl [Tbx]; · iexact Tbx
    iapply hbx; iapply (xs_any c); iexact Hxc
  iintro HO
  iapply (w_give X κ ν c (py c) barS .bar rfl rfl 1 (by decide) 0 (owe c 0 0 0 0)) $$ [HO Tby Hyc]
  · isplitr; · iexact Hc
    isplitl [HO]; · iexact HO
    isplitl [Tby]; · iexact Tby
    iapply hby; iapply (ys_any c); iexact Hyc
  iintro HO
  iapply (w_takeBar X κ ν c 0 0 0 0) $$ [HO Cbar Abar]
  · isplitr; · iexact Hc
    isplitl [HO]; · iexact HO
    isplitl [Cbar] <;> iassumption
  iintro ⟨HO, Abar, HUX, HUY⟩
  iapply (w_startOwn X κ ν c) $$ [Hx16 Hacc Tloc]
  · isplitr; · iexact Hc
    isplitl [Hx16]; · iexact Hx16
    isplitl [Hacc]; · iexact Hacc
    iexact Tloc
  iintro Hcl
  iapply (w_chunks X κ ν c (sendX c) (IS X c) _ 0 12 _ (fun k K _ h2 => w_IS X κ ν c k (by omega) K _)) $$ [HO HT HUX]
  · isplitr; · iexact Hc
    iapply hIS
    isplitl [HO]; · iexact HO
    isplitl [HT] <;> iassumption
  rw [Nat.zero_add]
  unfold IS
  iintro ⟨HO, HT, -, HC⟩
  iapply (w_waitOwn X κ ν c 12 0 0 0) $$ [HO Hcl Aloc]
  · isplitr; · iexact Hc
    isplitl [HO]; · iexact HO
    isplitl [Hcl] <;> iassumption
  iintro ⟨HO, Aloc, Hacc, Hx16⟩
  ihave Hst := hst $$ [HO HT HC HF HUY Hacc]
  · isplitl [HO]; · iexact HO
    isplitl [HT HC]
    · isplitl [HT] <;> iassumption
    isplitl [HF]; · iexact HF
    isplitl [HUY] <;> iassumption
  iapply (w_chunks X κ ν c (stepXY c) (fun i => st X c i (i - 2)) _ 0 16 _ (fun k K _ _ => w_st_XY X κ ν c k K _)) $$ [Hst]
  · isplitr; · iexact Hc
    iexact Hst
  iintro Hst
  iapply (w_chunks X κ ν c (stepY c) (st X c 16) _ 14 2 _ (fun k K _ _ => w_st_Y X κ ν c k (by omega) K _)) $$ [Hst]
  · isplitr; · iexact Hc
    iexact Hst
  iintro Hst
  ihave Hst := hend $$ Hst
  icases Hst with ⟨HO, HA, HB, HCS, HFX, HFY⟩
  iapply (w_chunks X κ ν c (sentX c) (JS X c) _ 0 16 _ (fun k K _ _ => w_JS X κ ν c k K _)) $$ [HO HCS]
  · isplitr; · iexact Hc
    iapply hJS0
    isplitl [HO] <;> iassumption
  rw [Nat.zero_add]
  unfold JS
  iintro ⟨HO, -, HDS⟩
  iapply (w_chunks X κ ν c (outXY c) (fun i => JO X c i (i - 2)) _ 0 16 _ (fun k K _ _ => w_JXY X κ ν c k K _)) $$ [HO HFX HFY]
  · isplitr; · iexact Hc
    iapply hJO0
    isplitl [HO]; · iexact HO
    isplitl [HFX] <;> iassumption
  iintro HJ
  iapply (w_chunks X κ ν c (outY c) (JO X c 16) _ 14 2 _ (fun k K _ _ => w_JY X κ ν c k 16 K _)) $$ [HJ]
  · isplitr; · iexact Hc
    iexact HJ
  unfold JO
  rw [owe_end]
  iintro ⟨HO, ⟨-, HDX⟩, ⟨-, HDY⟩⟩
  imod hfin $$ [Abar Aloc Hx16 Hx17 HA HB HDS HDX HDY] with HE
  · isplitr; · iexact Hc
    isplitl [Abar Aloc Hx16 Hx17]
    · isplitl [Abar]; · iexact Abar
      isplitl [Aloc]; · iexact Aloc
      isplitl [Hx16] <;> iassumption
    isplitl [HA]; · iexact HA
    isplitl [HB]; · iexact HB
    isplitl [HDS]; · iexact HDS
    isplitl [HDX]; · iexact HDX
    iexact HDY
  rw [wp_ret]
  imodintro
  isplitl [HO] <;> iassumption

end Cert.KernelIdeal.Own
end
-- ==== Proof.Ideal.Deal.lean ====
/- What the launch mints, dealt to the cores: every duty token to the core that pays it, every core's credit for what its
   peers owe it, and the two sides of every slot that is handed back. -/
module

public import proofs.«01_k».proof.Proof.Ideal.Whole

@[expose] public section

noncomputable section

namespace Cert.KernelIdeal.Own

open Idealize.ShloMosaic Idealize.ShloMosaic.Rounds Cert.KernelIdeal.Gen Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (Fin 16) (Elt F) ℕ UU ℕ

variable (c : Dev nD)

/-! ## The peers as permutations of the devices -/

/-- Exchanging partners, -/
def pxE : Dev nD ≃ Dev nD := ⟨px, px, px_px, px_px⟩
/-- and buddies. -/
def pyE : Dev nD ≃ Dev nD := ⟨py, py, py_py, py_py⟩

/-- A family over the devices, dealt to the partners, -/
theorem deal_px (A : Dev nD → sProp 𝕄) : bigSep Finset.univ A = bigSep Finset.univ (fun c => A (px c)) := bigSep_univ_equiv pxE A
/-- and to the buddies. -/
theorem deal_py (A : Dev nD → sProp 𝕄) : bigSep Finset.univ A = bigSep Finset.univ (fun c => A (py c)) := bigSep_univ_equiv pyE A

/-! ## The duty tokens -/

/-- The instalments a core pays, numbered. -/
abbrev TokIx : Type := Fin 3 ⊕ Fin 4 ⊕ Fin 4 ⊕ Fin 16 ⊕ Fin 16 ⊕ Fin 16 ⊕ Fin 16 ⊕ Fin 16 ⊕ Fin 16

/-- The device an instalment is paid to. -/
def tokDev (c : Dev nD) : TokIx → Dev nD
  | .inl 0 => px c | .inl 1 => py c | .inl _ => c
  | .inr (.inl _) => px c | .inr (.inr (.inl _)) => py c
  | .inr (.inr (.inr (.inl _))) => px c | .inr (.inr (.inr (.inr (.inl _)))) => c
  | .inr (.inr (.inr (.inr (.inr (.inl _))))) => py c | .inr (.inr (.inr (.inr (.inr (.inr (.inl _)))))) => c
  | .inr (.inr (.inr (.inr (.inr (.inr (.inr _)))))) => c

/-- The cell, the round and the instalment. -/
def tokAt : TokIx → CK × ℕ × Fin 4
  | .inl 0 => (.bar, 0, 0) | .inl 1 => (.bar, 0, 1) | .inl _ => (.loc, 0, 0)
  | .inr (.inl i) => (.xcr, 0, i) | .inr (.inr (.inl i)) => (.ycr, 0, i)
  | .inr (.inr (.inr (.inl k))) => (.xrecv (slot k), k.val / 12, 0) | .inr (.inr (.inr (.inr (.inl k)))) => (.xsend k, 0, 0)
  | .inr (.inr (.inr (.inr (.inr (.inl k))))) => (.yrecv (slot k), k.val / 12, 0) | .inr (.inr (.inr (.inr (.inr (.inr (.inl k)))))) => (.ysend k, 0, 0)
  | .inr (.inr (.inr (.inr (.inr (.inr (.inr (.inl k))))))) => (.xout k, 0, 0) | .inr (.inr (.inr (.inr (.inr (.inr (.inr (.inr k))))))) => (.yout k, 0, 0)

/-- The number of an instalment. -/
def tokOf : CK × ℕ × Fin 4 → TokIx
  | (.bar, _, j) => if j = 0 then .inl 0 else .inl 1
  | (.loc, _, _) => .inl 2
  | (.xcr, _, j) => .inr (.inl j) | (.ycr, _, j) => .inr (.inr (.inl j))
  | (.xrecv s, r, _) => .inr (.inr (.inr (.inl (f16 (s.val + 12 * r))))) | (.xsend k, _, _) => .inr (.inr (.inr (.inr (.inl k))))
  | (.yrecv s, r, _) => .inr (.inr (.inr (.inr (.inr (.inl (f16 (s.val + 12 * r))))))) | (.ysend k, _, _) => .inr (.inr (.inr (.inr (.inr (.inr (.inl k))))))
  | (.xout k, _, _) => .inr (.inr (.inr (.inr (.inr (.inr (.inr (.inl k))))))) | (.yout k, _, _) => .inr (.inr (.inr (.inr (.inr (.inr (.inr (.inr k)))))))

theorem tokOf_at (i : TokIx) : tokOf (tokAt i) = i := by
  have hf : ∀ k : Fin 16, f16 ((slot k).val + 12 * (k.val / 12)) = k := by decide
  rcases i with j | i | i | k | k | k | k | k | k
  · fin_cases j <;> rfl
  all_goals first | rfl | (simp only [tokAt, tokOf, hf])

theorem tokDev_inj (i : TokIx) {c c' : Dev nD} (h : tokDev c i = tokDev c' i) : c = c' := by
  have hx : ∀ a b : Dev nD, px a = px b → a = b := fun a b h => pxE.injective h
  have hy : ∀ a b : Dev nD, py a = py b → a = b := fun a b h => pyE.injective h
  rcases i with j | i | i | k | k | k | k | k | k
  · fin_cases j
    · exact hx _ _ h
    · exact hy _ _ h
    · exact h
  · exact hx _ _ h
  · exact hy _ _ h
  · exact hx _ _ h
  · exact h
  · exact hy _ _ h
  · exact h
  · exact h
  · exact h

/-- Every instalment of the kernel, by the core that pays it. -/
def tok (x : Dev nD × TokIx) : GSem nD τ sig × ℕ × Fin 4 := (cell (tokDev x.1 x.2) (tokAt x.2).1, (tokAt x.2).2)

theorem tok_injective : Function.Injective tok := by
  rintro ⟨c, i⟩ ⟨c', i'⟩ h
  have h1 : tokDev c i = tokDev c' i' ∧ (tokAt i).1 = (tokAt i').1 := cell_inj (congrArg (fun x : GSem nD τ sig × ℕ × Fin 4 => x.1) h)
  have h2 : (tokAt i).2 = (tokAt i').2 := congrArg (fun x : GSem nD τ sig × ℕ × Fin 4 => x.2) h
  have hi : i = i' := by rw [← tokOf_at i, ← tokOf_at i', Prod.ext h1.2 h2]
  subst hi
  exact Prod.ext (tokDev_inj i h1.1) rfl

/-- All of them. -/
def allToks : Finset (GSem nD τ sig × ℕ × Fin 4) := Finset.univ.map ⟨tok, tok_injective⟩

/-- Their tokens, core by core. -/
theorem toks_deal : bigSep allToks (fun x => (dutyTok ER x.1 x.2.1 x.2.2 : sProp 𝕄)) = bigSep Finset.univ (fun c => Toks (F := F) c) := by
  have h3 : ∀ Φ : Fin 3 → sProp 𝕄, bigSep Finset.univ Φ = iprop(Φ 0 ∗ Φ 1 ∗ Φ 2) := fun Φ => bigSep_univ_eq_bigSepL [0, 1, 2] (by decide) (by decide) Φ
  unfold allToks
  rw [bigSep_map, bigSep_univ_prod]
  refine bigSep_congr fun c _ => ?_
  rw [bigSep_univ_sum, bigSep_univ_sum, bigSep_univ_sum, bigSep_univ_sum, bigSep_univ_sum, bigSep_univ_sum, bigSep_univ_sum, bigSep_univ_sum, h3]
  unfold Toks
  have e : ∀ A B C D : sProp 𝕄, iprop((A ∗ B ∗ C) ∗ D) = iprop(A ∗ B ∗ C ∗ D) := fun A B C D => by
    have e1 : iprop((A ∗ B ∗ C) ∗ D) ⊢ iprop(A ∗ B ∗ C ∗ D) := by
      iintro ⟨⟨H1, H2, H3⟩, H4⟩
      isplitl [H1]; · iexact H1
      isplitl [H2]; · iexact H2
      isplitl [H3] <;> iassumption
    have e2 : iprop(A ∗ B ∗ C ∗ D) ⊢ iprop((A ∗ B ∗ C) ∗ D) := by
      iintro ⟨H1, H2, H3, H4⟩
      isplitl [H1 H2 H3]
      · isplitl [H1]; · iexact H1
        isplitl [H2] <;> iassumption
      iexact H4
    exact Entails.antisymm e1 e2
  exact e _ _ _ _

/-! ## The cells -/

/-- All cells. -/
def allCells : Finset (GSem nD τ sig) := Finset.univ.map ⟨fun x : Dev nD × CK => cell x.1 x.2, fun x y h => Prod.ext (cell_inj h).1 (cell_inj h).2⟩

theorem cells_deal (A : GSem nD τ sig → sProp 𝕄) : bigSep allCells A = bigSep Finset.univ fun c : Dev nD => bigSep Finset.univ fun k : CK => A (cell c k) := by
  unfold allCells; rw [bigSep_map, bigSep_univ_prod]; rfl

/-! ## The credit -/

/-- When every core owes its peer's cell some units, every core has credit for what its peer owes it. -/
theorem cred_peer (p : Dev nD → Dev nD) (hp : ∀ c, p (p c) = c) (k : CK) (ι : Fin 16) (n : ℕ) :
    (Pipeline.launchCred (fun d => tallyAt (cell (p d) k) ι n) c : sProp 𝕄) ⊢ cred (tallyAt (cell c k) ι n) := by
  have e : tallyOn (cell c k) (launchCredit (Pipeline.owing fun d => tallyAt (cell (p d) k) ι n) 0 (cell c k)) = (tallyAt (cell c k) ι n : CellTallies nD τ sig (Fin 16)) := by
    unfold tallyAt
    refine congrArg _ (Finsupp.ext fun i => ?_)
    rw [Pipeline.launchCredit_owing]
    have h : ∀ d : Dev nD, (tallyAt (cell (p d) k) ι n : CellTallies nD τ sig (Fin 16)) (cell c k) i = if d = p c then (if i = ι then n else 0) else 0 := by
      intro d
      rw [tallyAt_apply]
      by_cases hd : d = p c
      · subst hd
        rw [if_pos rfl, hp]
        by_cases hi : i = ι
        · rw [if_pos ⟨rfl, hi⟩, if_pos hi]
        · rw [if_neg fun h => hi h.2, if_neg hi]
      · rw [if_neg hd, if_neg fun h => hd (by rw [(cell_inj h.1).1, hp])]
    refine (Finset.sum_congr rfl fun d _ => h d).trans ?_
    rw [Finset.sum_ite_eq' Finset.univ (p c) fun _ => if i = ι then n else 0, if_pos (Finset.mem_univ _), Finsupp.single_apply]
    by_cases hi : i = ι
    · rw [if_pos hi, if_pos hi.symm]
    · rw [if_neg hi, if_neg fun h => hi h.symm]
  have h := Pipeline.launchCred_elim (Name := ℕ) (U := UU) (Lvl := ℕ) (Val := Elt F) (fun d => tallyAt (cell (p d) k) ι n) c k.sem
  rw [e] at h
  exact h

/-- The credit for a family of tallies. -/
theorem cred_fam {n : ℕ} (T : Dev nD → Fin n → CellTallies nD τ sig (Fin 16)) (A : Fin n → sProp 𝕄)
    (h : ∀ k, (Pipeline.launchCred (fun d => T d k) c : sProp 𝕄) ⊢ A k) :
    (Pipeline.launchCred (fun d => oweF (T d) 0) c : sProp 𝕄) ⊢ bigSep Finset.univ A := by
  unfold oweF
  rw [Finset.filter_true_of_mem (fun j _ => Nat.zero_le _), Pipeline.launchCred_sum Finset.univ (fun k d => T d k) c]
  exact bigSep_mono fun k _ => h k

/-- A core's credit at launch. -/
theorem creds : (Pipeline.launchCred owe₀ c : sProp 𝕄) ⊢ Crds c := by
  have e : (Pipeline.launchCred owe₀ c : sProp 𝕄) = iprop(((((Pipeline.launchCred (fun d => oweF (tX d) 0) c ∗ Pipeline.launchCred (fun d => oweF (tY d) 0) c)
      ∗ Pipeline.launchCred (fun d => oweF (tXC d) 0) c) ∗ Pipeline.launchCred (fun d => oweF (tYC d) 0) c)
      ∗ Pipeline.launchCred (fun d => tallyAt (cell (py d) .bar) 0 1) c) ∗ Pipeline.launchCred (fun d => tallyAt (cell (px d) .bar) 0 1) c) := by
    rw [← Pipeline.launchCred_add, ← Pipeline.launchCred_add, ← Pipeline.launchCred_add, ← Pipeline.launchCred_add, ← Pipeline.launchCred_add]
    rfl
  have h1 := cred_fam (F := F) c tX (fun k => cred (tallyAt (cell c (.xrecv (slot k))) k N)) fun k => cred_peer c px px_px _ _ _
  have h2 := cred_fam (F := F) c tY (fun k => cred (tallyAt (cell c (.yrecv (slot k))) k N)) fun k => cred_peer c py py_py _ _ _
  have h3 := cred_fam (F := F) c tXC (fun i => cred (tallyAt (cell c .xcr) (i4 i) 1)) fun i => cred_peer c px px_px _ _ _
  have h4 := cred_fam (F := F) c tYC (fun i => cred (tallyAt (cell c .ycr) (i4 i) 1)) fun i => cred_peer c py py_py _ _ _
  have h5 := cred_peer (F := F) c py py_py .bar 0 1
  have h6 := cred_peer (F := F) c px px_px .bar 0 1
  have h7 : iprop(cred (tallyAt (cell c .bar) 0 1) ∗ cred (tallyAt (cell c .bar) 0 1)) ⊢ (cred (tallyAt (cell c .bar) 0 2) : sProp 𝕄) := by
    rw [show (tallyAt (cell c .bar) 0 2 : CellTallies nD τ sig (Fin 16)) = tallyAt (cell c .bar) 0 1 + tallyAt (cell c .bar) 0 1 from (tallyAt_add (cell c .bar) (0 : Fin 16) 1 1).symm]
    exact (cred_add _ _).2
  rw [e]
  unfold Crds
  iintro ⟨⟨⟨⟨⟨H1, H2⟩, H3⟩, H4⟩, H5⟩, H6⟩
  isplitl [H5 H6]
  · iapply h7
    isplitl [H5]
    · iapply h5; iexact H5
    · iapply h6; iexact H6
  isplitl [H3]; · iapply h3; iexact H3
  isplitl [H4]; · iapply h4; iexact H4
  isplitl [H1]; · iapply h1; iexact H1
  iapply h2; iexact H2

/-! ## The slots -/

/-- A family over the keys, device by device. -/
theorem keys_deal (A : Key → sProp 𝕄) : bigSep Finset.univ A
    = iprop(bigSep Finset.univ (fun c : Dev nD => bigSep Finset.univ fun i : Fin 4 => A (c, false, i)) ∗ bigSep Finset.univ (fun c : Dev nD => bigSep Finset.univ fun i : Fin 4 => A (c, true, i))) := by
  have h2 : ∀ Φ : Bool → sProp 𝕄, bigSep Finset.univ Φ = iprop(Φ false ∗ Φ true) := fun Φ => bigSep_univ_eq_bigSepL [false, true] (by decide) (by decide) Φ
  rw [bigSep_univ_prod, ← bigSep_sep']
  refine bigSep_congr fun c _ => ?_
  rw [bigSep_univ_prod, h2]

/-- The slots' two sides, dealt: a core releases its own and writes its peers'. -/
theorem slots_deal : iprop(bigSep Finset.univ (fun k : Key => Release.readerAt ES k 0) ∗ bigSep Finset.univ (fun k : Key => Release.writeTok ES k 1))
    ⊢ bigSep Finset.univ (fun c => Slots (F := F) c) := by
  unfold Slots
  simp only [bigSep_sep']
  rw [keys_deal, keys_deal (fun k => Release.writeTok ES k 1), deal_px (fun c => bigSep Finset.univ fun i : Fin 4 => Release.writeTok ES ((c, false, i) : Key) 1),
    deal_py (fun c => bigSep Finset.univ fun i : Fin 4 => Release.writeTok ES ((c, true, i) : Key) 1)]
  iintro ⟨⟨H1, H2⟩, H3, H4⟩
  isplitl [H1]; · iexact H1
  isplitl [H2]; · iexact H2
  isplitl [H3]; · iexact H3
  iexact H4

/-- The slots' invariants, and their two sides. -/
theorem slots_fund : BI.own (ES (Release.initSlots (Finset.univ : Finset Key) 1)) ⊢ (|={Set.univ}=> iprop((∃ ν, slotsK ν) ∗ bigSep Finset.univ (fun c => Slots (F := F) c)) : sProp 𝕄) := by
  have hw : bigSep ((Finset.univ : Finset Key) ×ˢ Finset.range 1) (fun x => (Release.writeTok ES x.1 (x.2 + 1) : sProp 𝕄)) = bigSep Finset.univ (fun k : Key => Release.writeTok ES k 1) := by
    have e : (Finset.univ : Finset Key) ×ˢ Finset.range 1 = Finset.univ.map ⟨fun k : Key => (k, 0), fun a b h => congrArg Prod.fst h⟩ := by
      ext ⟨k, n⟩
      constructor
      · intro h
        have hn : n < 1 := Finset.mem_range.mp (Finset.mem_product.mp h).2
        exact Finset.mem_map.mpr ⟨k, Finset.mem_univ _, Prod.ext rfl (show 0 = n by omega)⟩
      · intro h
        obtain ⟨k', -, h⟩ := Finset.mem_map.mp h
        have hn : 0 = n := congrArg (fun x : Key × ℕ => x.2) h
        exact Finset.mem_product.mpr ⟨Finset.mem_univ _, Finset.mem_range.mpr (show n < 1 by omega)⟩
    rw [e, bigSep_map]; rfl
  have hs := Release.slots_init (Es := Set.univ) (ES : Emb _ 𝕄) Finset.univ 1 (keySlot (F := F)) ∅
  rw [hw] at hs
  iintro H
  imod hs $$ H with ⟨%ν, -, HI, HR, HW⟩
  imodintro
  isplitl [HI]
  · iexists ν; unfold slotsK; iexact HI
  iapply slots_deal
  isplitl [HR] <;> iassumption

end Cert.KernelIdeal.Own
end
-- ==== Proof.Ideal.Launch.lean ====
/- The kernel's launch: from any memory with all counters at zero, every execution of the sixteen cores ends, with every
   core's result holding the sum of its block and its peers', its argument unchanged and every counter at zero again. -/
module

public import proofs.«01_k».proof.Proof.Ideal.Deal

@[expose] public section

noncomputable section

namespace Cert.KernelIdeal.Own

open Idealize.ShloMosaic Idealize.ShloMosaic.Rounds Cert.KernelIdeal.Gen Idealize.ShloMosaic.ValueIdx Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (Fin 16) (Elt F) ℕ UU ℕ

variable (m : (ℓ : Loc nD τ sig) → Buf (Elt F) ℓ) (ρ : Dev nD → PrngReg)

/-- The arguments at launch. -/
def X₀ (c : Dev nD) : S1x8192x2048.Idx → Elt F .f32 := m (xL c)

/-! ## The semaphores -/

/-- The scoped semaphores are the kernel's own. -/
abbrev osem : {s : SemLoc sig // s.isScoped .tc = true} → SemLoc sig := Subtype.val

theorem ownSemFacts : Pipeline.OwnSemFacts cfg0.spec osem := ⟨fun k => k.2, Subtype.val_injective, fun _ w => w.elim0⟩

/-- The kernel's own semaphores and the barrier are all kinds of cells. -/
theorem sems_eq (c : Dev nD) : iprop(Pipeline.ownSems0 (Ix := Fin 16) (Name := ℕ) (U := UU) (Lvl := ℕ) (Val := Elt F) (τ := τ) osem c ∗ unscopedSems0 c)
    = (bigSep Finset.univ fun k : CK => semVal (cell c k) 0 : sProp 𝕄) := by
  have e : (bigSep Finset.univ fun k : CK => semVal (cell c k) 0 : sProp 𝕄) = bigSep Finset.univ fun s : SemLoc sig => semVal ((Dev.tc c : Thread nD τ), s) 0 :=
    (bigSep_univ_equiv CK.equiv fun s : SemLoc sig => (semVal ((Dev.tc c : Thread nD τ), s) 0 : sProp 𝕄)).symm
  rw [e, bigSep_filter_split Finset.univ (fun s : SemLoc sig => s.isScoped .tc = true)]
  unfold Pipeline.ownSems0 unscopedSems0
  rw [← bigSep_subtype (fun s : SemLoc sig => s.isScoped .tc = true) (fun s => (semVal ((Dev.tc c : Thread nD τ), s) 0 : sProp 𝕄))]
  rfl

/-! ## What the launch deals -/

/-- What the launch's element gives a core. -/
def G (c : Dev nD) : sProp 𝕄 :=
  iprop((bigSep Finset.univ fun k : CK => roundState ER (Rd (X₀ m)) (cell c k) 0) ∗ (bigSep Finset.univ fun k : CK => reached ER (cell c k) 0)
    ∗ (bigSep Finset.univ fun k : CK => atPos ER (cell c k) 0 ∅ 0) ∗ Toks c ∗ Slots c ∗ ∃ ν, slotsK ν)

/-- What every core has of it once the invariants stand. -/
def G' (c : Dev nD) : sProp 𝕄 :=
  iprop((∃ κ, cellsK (X₀ m) κ) ∗ (∃ ν, slotsK ν) ∗ (bigSep Finset.univ fun k : CK => atPos ER (cell c k) 0 ∅ 0) ∗ Toks c ∗ Slots c)

/-- A persistent resource goes to every member of a family. -/
theorem with_all {I : Type} [DecidableEq I] {S : Finset I} {R : sProp 𝕄} [BI.Persistent R] {Φ Ψ : I → sProp 𝕄} (h : ∀ i, iprop(R ∗ Φ i) ⊢ Ψ i) :
    iprop(R ∗ bigSep S Φ) ⊢ bigSep S Ψ :=
  (sep_mono_left (BI.bigSep_of_persistent S R)).trans (by rw [← bigSep_sep']; exact bigSep_mono fun i _ => h i)

/-- The launch's element. -/
def u₀ : UU := (initOf (Pipeline.cells cfgs cellOf_inj) (Pipeline.launchToks cfgs cellOf_inj), (initOf allCells allToks, Release.initSlots (Finset.univ : Finset Key) 1))

/-- The part for the kernel's own protocol, dealt. -/
theorem fund_own : BI.own ((EB : Emb UB 𝕄) (initOf allCells allToks, Release.initSlots (Finset.univ : Finset Key) 1)) ⊢ (|={Set.univ}=> bigSep Finset.univ (G m) : sProp 𝕄) := by
  have hsp := own_pair_emb (EB : Emb UB 𝕄) (initOf allCells allToks) (Release.initSlots (Finset.univ : Finset Key) 1)
  have hfd := Rounds.fund (ER : Emb _ 𝕄) (Rd (X₀ m)) allCells allToks
  rw [cells_deal, cells_deal, cells_deal, toks_deal] at hfd
  have hsl := slots_fund (F := F)
  have hG : iprop((∃ ν, slotsK ν) ∗ bigSep Finset.univ fun c : Dev nD => iprop((bigSep Finset.univ fun k : CK => roundState ER (Rd (X₀ m)) (cell c k) 0)
      ∗ (bigSep Finset.univ fun k : CK => reached ER (cell c k) 0) ∗ (bigSep Finset.univ fun k : CK => atPos ER (cell c k) 0 ∅ 0) ∗ Toks c ∗ Slots c)) ⊢ bigSep Finset.univ (G m) := by
    have h : ∀ c : Dev nD, iprop((∃ ν, slotsK ν) ∗ (bigSep Finset.univ fun k : CK => roundState ER (Rd (X₀ m)) (cell c k) 0)
        ∗ (bigSep Finset.univ fun k : CK => reached ER (cell c k) 0) ∗ (bigSep Finset.univ fun k : CK => atPos ER (cell c k) 0 ∅ 0) ∗ Toks c ∗ Slots c) ⊢ G m c := by
      intro c
      unfold G
      iintro ⟨H1, H2, H3, H4, H5, H6⟩
      isplitl [H2]; · iexact H2
      isplitl [H3]; · iexact H3
      isplitl [H4]; · iexact H4
      isplitl [H5]; · iexact H5
      isplitl [H6] <;> iassumption
    exact with_all h
  iintro H
  ihave H := hsp $$ H
  icases H with ⟨H1, H2⟩
  imod hfd $$ H1 with ⟨Hst, Hr, Hat, Ht⟩
  imod hsl $$ H2 with ⟨Hn, Hs⟩
  imodintro
  iapply hG
  isplitl [Hn]; · iexact Hn
  simp only [bigSep_sep']
  isplitl [Hst]; · iexact Hst
  isplitl [Hr]; · iexact Hr
  isplitl [Hat]; · iexact Hat
  isplitl [Ht] <;> iassumption

/-- A core's cells' invariants, allocated from its counters at zero. -/
theorem core_alloc (c : Dev nD) : iprop(Pipeline.ownSems0 (Ix := Fin 16) (Name := ℕ) (U := UU) (Lvl := ℕ) (Val := Elt F) (τ := τ) osem c ∗ unscopedSems0 c ∗ G m c)
    ⊢ |={Set.univ}=> iprop((bigSep Finset.univ fun k : CK => iprop(∃ n : ℕ, cellInv ER (Rd (X₀ m)) n (cell c k))) ∗ (bigSep Finset.univ fun k : CK => reached ER (cell c k) 0)
        ∗ (bigSep Finset.univ fun k : CK => atPos ER (cell c k) 0 ∅ 0) ∗ Toks c ∗ Slots c ∗ ∃ ν, slotsK ν) := by
  have hv := (Entails.of_eq (sems_eq (F := F) c))
  have ha : iprop((bigSep Finset.univ fun k : CK => semVal (cell c k) 0) ∗ bigSep Finset.univ fun k : CK => roundState ER (Rd (X₀ m)) (cell c k) 0)
      ⊢ (|={Set.univ}=> bigSep Finset.univ fun k : CK => iprop(∃ n : ℕ, cellInv ER (Rd (X₀ m)) n (cell c k)) : sProp 𝕄) := by
    rw [← bigSep_sep']
    exact (bigSep_mono fun k _ => (Rounds.body_intro ER (Rd (X₀ m)) (cell c k)).trans inv_alloc).trans (bigSep_fupd _ _)
  unfold G
  iintro ⟨Hos, Hus, Hst, H⟩
  ihave Hv := hv $$ [Hos Hus]
  · isplitl [Hos] <;> iassumption
  imod ha $$ [Hv Hst] with Hi
  · isplitl [Hv] <;> iassumption
  imodintro
  isplitl [Hi] <;> iassumption

/-- The invariants of all cores' cells go to every core. -/
theorem regroup : (bigSep Finset.univ fun c : Dev nD => iprop((bigSep Finset.univ fun k : CK => iprop(∃ n : ℕ, cellInv ER (Rd (X₀ m)) n (cell c k))) ∗ (bigSep Finset.univ fun k : CK => reached ER (cell c k) 0)
      ∗ (bigSep Finset.univ fun k : CK => atPos ER (cell c k) 0 ∅ 0) ∗ Toks c ∗ Slots c ∗ ∃ ν, slotsK ν) : sProp 𝕄) ⊢ bigSep Finset.univ (G' m) := by
  have hex := BI.bigSep_exists_pi Finset.univ (fun (x : Dev nD × CK) (n : ℕ) => (cellInv ER (Rd (X₀ m)) n (cell x.1 x.2) : sProp 𝕄))
  have hk : ∀ κ : Dev nD × CK → ℕ, iprop((bigSep Finset.univ fun x : Dev nD × CK => cellInv ER (Rd (X₀ m)) (κ x) (cell x.1 x.2))
      ∗ (bigSep Finset.univ fun x : Dev nD × CK => reached ER (cell x.1 x.2) 0)) ⊢ cellsK (X₀ m) κ := by
    intro κ; unfold cellsK; rw [bigSep_sep']
  have hG : iprop((∃ κ, cellsK (X₀ m) κ) ∗ bigSep Finset.univ fun c : Dev nD => iprop((bigSep Finset.univ fun k : CK => atPos ER (cell c k) 0 ∅ 0) ∗ Toks c ∗ Slots c ∗ ∃ ν, slotsK ν))
      ⊢ bigSep Finset.univ (G' m) := by
    have h : ∀ c : Dev nD, iprop((∃ κ, cellsK (X₀ m) κ) ∗ (bigSep Finset.univ fun k : CK => atPos ER (cell c k) 0 ∅ 0) ∗ Toks c ∗ Slots c ∗ ∃ ν, slotsK ν) ⊢ G' m c := by
      intro c
      unfold G'
      iintro ⟨H1, H2, H3, H4, H5⟩
      isplitl [H1]; · iexact H1
      isplitl [H5]; · iexact H5
      isplitl [H2]; · iexact H2
      isplitl [H3] <;> iassumption
    exact with_all h
  rw [bigSep_sep', bigSep_sep', ← bigSep_univ_prod (fun x : Dev nD × CK => iprop(∃ n : ℕ, cellInv ER (Rd (X₀ m)) n (cell x.1 x.2))),
    ← bigSep_univ_prod (fun x : Dev nD × CK => (reached ER (cell x.1 x.2) 0 : sProp 𝕄))]
  iintro ⟨HI, HR, H⟩
  ihave HI := hex $$ HI
  icases HI with ⟨%κ, HI⟩
  iapply hG
  isplitr [H]
  · iexists κ
    iapply (hk κ)
    isplitl [HI] <;> iassumption
  iexact H

/-- The step all cores take together before they start. -/
theorem glob : (bigSep Finset.univ fun c => iprop(Pipeline.ownSems0 (Ix := Fin 16) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The body's contract -/

/-- What a core's body starts from but its scratch. -/
def St (c : Dev nD) : sProp 𝕄 := iprop(G' m c ∗ Crds c ∗ Lev ∗ ((xL c) ↦{fullShare} (X₀ m c : Buf (Elt F) (xL c))) ∗ (∃ f : Buf (Elt F) (outL c), (outL c) ↦{fullShare} f))

/-- The contract of the kernel's one call: no windows, one point. -/
def dats (_ : Fin 1) (c : Dev nD) : Dat τ (Elt F) (Fin 16) ℕ UU ℕ cfg0 c where
  A w := w.elim0
  after w _ := w.elim0
  Φ t := match t with
    | ⟨0, _⟩ => iprop(St m c ∗ Scr c)
    | ⟨_ + 1, _⟩ => End (X₀ m) c
  q _ := fullShare
  owed t := match t with
    | ⟨0, _⟩ => owe₀ c
    | ⟨_ + 1, _⟩ => 0

/-- The body meets it. -/
theorem body_meets (c : Dev nD) : iprop((St m c ∗ Scr c) ∗ Owes c (owe₀ c)) ⊢ W c prog (fun _ => iprop(Owes c 0 ∗ End (X₀ m) c)) := by
  have h := fun κ ν => w_prog (X₀ m) κ ν c
  unfold ctx Start at h
  unfold St G'
  iintro ⟨⟨⟨⟨⟨%κ, Hk⟩, ⟨%ν, Hn⟩, Hat, Ht, Hs⟩, Hc, Hl, Hx, Ho⟩, Hscr⟩, HO⟩
  iapply (h κ ν)
  isplitl [Hk Hn Hl]
  · isplitl [Hk]; · iexact Hk
    isplitl [Hn] <;> iassumption
  isplitl [HO]; · iexact HO
  isplitl [Hat]; · iexact Hat
  isplitl [Ht]; · iexact Ht
  isplitl [Hc]; · iexact Hc
  isplitl [Hs]; · iexact Hs
  isplitl [Hx]; · iexact Hx
  isplitl [Ho] <;> iassumption

set_option maxRecDepth 100000 in
theorem body_obligation (c : Dev nD) : BodyObligation (dats (F := F) m 0 c) (defs₀ (F := F)) 𝒱₀ (0 : Fin 16) Set.univ := fun t => by
  have ht : t = t0_0 := fin_N0 t
  subst ht
  have hb := body_meets m c
  rw [← body_eq t0_0] at hb
  have e1 : ∀ Φ : Fin cfg0.W → sProp 𝕄, bigSep Finset.univ Φ = iprop(emp) := fun Φ => bigSep_empty
  rw [e1, e1]
  have h1 : iprop((dats m 0 c).Φ t0_0.castSucc ∗ (dats m 0 c).owesAt (0 : Fin 16) t0_0.castSucc ∗ emp) ⊢ iprop((St m c ∗ Scr c) ∗ Owes c (owe₀ c)) := by
    rw [show (dats m 0 c).Φ t0_0.castSucc = iprop(St m c ∗ Scr c) from rfl]
    unfold Dat.owesAt Pipeline.owesWithin Owes
    rw [show (dats m 0 c).owed t0_0.castSucc = owe₀ c from rfl]
    iintro ⟨H, ⟨%W, -, HO⟩, -⟩
    isplitl [H]; · iexact H
    iexists W; iexact HO
  have h2 : iprop(Owes c 0 ∗ End (X₀ m) c) ⊢ iprop((dats m 0 c).Φ t0_0.succ ∗ (dats m 0 c).owesAt (0 : Fin 16) t0_0.succ ∗ emp) := by
    rw [show (dats m 0 c).Φ t0_0.succ = End (X₀ m) c from rfl]
    unfold Dat.owesAt Pipeline.owesWithin Owes
    rw [show (dats m 0 c).owed t0_0.succ = 0 from rfl]
    iintro ⟨⟨%W, HO⟩, H⟩
    isplitl [H]; · iexact H
    isplitl [HO]
    · iexists W
      isplitr; · ipureintro; exact fun _ _ => Or.inl trivial
      iexact HO
    iempintro
  exact (h1.trans hb).trans (wp_mono _ _ _ fun _ => h2)

/-! ## The launch's side conditions -/

theorem share_eq (c : Dev nD) (w : Fin cfg0.W) : (dats m 0 c).share w = fullShare := w.elim0

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ G' m c)
      ⊢ |={Set.univ}=> iprop(St m c ∗ emp) := by
  have hc := creds (F := F) c
  rw [Pipeline.unscopedRestP_none, unscopedRest0_eq]
  unfold St Lev
  iintro ⟨⟨Hx, Ho⟩, Hlev, Hcr, -, HG⟩
  ihave Hcr := hc $$ Hcr
  imodintro
  isplitl
  · isplitl [HG]; · iexact HG
    isplitl [Hcr]; · iexact Hcr
    isplitl [Hlev]; · iexact Hlev
    isplitl [Hx]; · iexact Hx
    iexists _; iexact Ho
  · iempintro

theorem phi_intro (c : Dev nD) :
    iprop(St m c ∗ Pipeline.prefHeld Pipeline.Prefetch.none c (fun _ => fullShare.right) (fun k => k.elim0) ∗ Pipeline.scopedRest cfg0.spec c) ⊢ (dats m 0 c).Φ 0 := by
  rw [show (dats m 0 c).Φ 0 = iprop(St m c ∗ Scr c) from rfl, scopedRest0_eq]
  unfold Scr
  iintro ⟨Hs, -, H⟩
  isplitl [Hs] <;> iassumption

/-- What is read off a core's final resources. -/
def Fin' (c : Dev nD) : sProp 𝕄 := iprop(unscopedSems0 c ∗ ((xL c) ↦{fullShare} (X₀ m c : Buf (Elt F) (xL c))) ∗ ((outL c) ↦{fullShare} (fin (X₀ m) c : Buf (Elt F) (outL c))))

theorem phi_exit (c : Dev nD) : (dats m 0 c).Φ (Fin.last cfg0.N) ⊢ iprop(Fin' m c ∗ Pipeline.ownSems0 osem c ∗ Pipeline.scopedRest cfg0.spec c) := by
  rw [show (dats m 0 c).Φ (Fin.last cfg0.N) = End (X₀ m) c from rfl, scopedRest0_eq]
  unfold End Fin' Scr
  rw [← sems_eq]
  iintro ⟨⟨Hos, Hus⟩, Hx, Ho, HS⟩
  isplitl [Hus Hx Ho]
  · isplitl [Hus]; · iexact Hus
    isplitl [Hx] <;> iassumption
  isplitl [Hos] <;> iassumption

theorem waits (c : Dev nD) : (levAts L lv : sProp 𝕄) ⊢ Pipeline.cellsWaits cfgs (dats m) (0 : Fin 16) 0 c :=
  Pipeline.cellsWaits_intro cfgs (dats m) (0 : Fin 16) 0 c fun w => w.elim0

/-! ## The run -/

/-- Core `c`'s final memory: its result holds the sums, its argument what it held. -/
def Done (c : Dev nD) (s : MemSt nD τ sig (Elt F)) : Prop :=
  s.mem (xL c) = m (xL c) ∧ s.mem (outL c) = (fin (X₀ m) c : Buf (Elt F) (outL c))

set_option maxRecDepth 100000 in
/-- Every execution of the kernel ends, with every core's result the sums, its argument unchanged, and every counter at zero. -/
theorem run_main : θ_run (defs (F := F)) (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats m) (0 : Fin 16) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owe₀) (howed₀ := fun _ => rfl) (howedN := fun _ => rfl)
    (L := L) (lv := lv) (hL := L_of_ne) (hwaits := waits m)
    (G := G m) (G' := G' m) (u₀ := u₀)
    (hu₀ := by
      have hf := fund_own m
      unfold u₀
      iintro Hu
      ihave H := (ownU_pair _ _) $$ Hu
      icases H with ⟨HP, HX⟩
      imod hf $$ HX with HG
      imodintro
      isplitl [HP] <;> iassumption)
    (hglob := glob m)
    (hA := fun _ w => w.elim0) (hpf := fun _ k => k.elim0)
    (X := St m) (Y := Fin' m) (Z := fun _ => iprop(emp))
    (hX := start_intro m ρ) (hin := phi_intro m) (hout := phi_exit m)
    (QY := fun c s => Done m c s ∧ ∀ sm : SemLoc sig, sm.isScoped .tc = false → s.sem ((c.tc : Thread nD τ), sm) = 0)
    (hY := fun c s' => by
      unfold Fin'
      iintro ⟨⟨Hu, Hx, Ho⟩, -, HSI⟩
      icombine HSI Hx gives %hx
      icombine HSI Ho gives %ho
      ihave %hz := (tcUnscoped_read c s') $$ [Hu HSI]
      · isplitl [Hu] <;> iassumption
      imodintro
      isplitr
      · ipureintro
        exact ⟨⟨Buf.eq_of_forall_mem_univ hx, Buf.eq_of_forall_mem_univ ho⟩, hz⟩
      iexact HSI)
    (hQ := fun _ h hs => ⟨fun c => (h c).2.2.1, sem_eq_zero hs fun c => (h c).2.2.2⟩)

end Cert.KernelIdeal.Own
end
-- ==== Proof.Value.lean ====
/- The result's value: over exact numbers each device's result is its block of the sum over the whole array. -/
module

public import proofs.«01_k».proof.Proof.Ideal.Geometry
public import proofs.«01_k».proof.Proof.Gen.ReferenceIdeal
public import Idealize.ShloMosaic.Lib.Layout
public import Idealize.ShloMosaic.Lib.IdealHost
public import Idealize.ShloMosaic.Lib.Pointwise.Reduce

@[expose] public section

noncomputable section

namespace Cert.KernelIdeal.Own

open Idealize.ShloMosaic Idealize.SL.Sem Cert.KernelIdeal.Gen Idealize.ShloMosaic.ValueIdx

/-- The whole array of the reference, and its sum over the first axis. -/
abbrev Whole := Cert.ReferenceIdeal.S2x8192x2048.Idx → Elt Ideal .f32
abbrev total (w : Whole) : Cert.ReferenceIdeal.S8192x2048.Idx → Elt Ideal .f32 :=
  Host.reduceAdd (F := Ideal) (φ := .f32) w (constant Cert.ReferenceIdeal.S_ .f32 0x00000000#32)
    Cert.ReferenceIdeal.Gen.reducesTo_S2x8192x2048_S8192x2048_d0 Cert.ReferenceIdeal.Gen.h_S_

/-- The sum over the first axis at an index is the sum of the two elements there. -/
theorem total_apply (w : Whole) (i : Cert.ReferenceIdeal.S8192x2048.Idx) :
    total w i = (w (ValueIdx.ix3 0 (i 0) (i 1)) + w (ValueIdx.ix3 1 (i 0) (i 1)) : EReal) := by
  refine (hostReduceAdd_apply _ _ _ _ i).trans ?_
  rw [Ideal.hostReduceAdd_r3_a0, Fin.sum_univ_two]
  have h0 : (constant Cert.ReferenceIdeal.S_ .f32 0x00000000#32 : FVec Ideal Cert.ReferenceIdeal.S_ .f32) (Shape.Idx.first Cert.ReferenceIdeal.Gen.h_S_) = (0 : EReal) :=
    Ideal.ofBits_zero_f32
  rw [h0, zero_add]
  exact congrArg₂ (fun p q : EReal => p + q) (congrArg w (Shape.idx3_ext rfl rfl rfl)) (congrArg w (Shape.idx3_ext rfl rfl rfl))

/-- A device's block along the first axis is its `x` coordinate. -/
theorem block_x (c : Dev nD) : Layout.meshLin [2, 2, 4] c.val [0] = c.val / 8 := by revert c; decide +kernel

/-- A device's argument as its part of the whole array. -/
abbrev argOf (w : Whole) (c : Dev nD) : S1x8192x2048.Idx → Elt Ideal .f32 :=
  Layout.blockN ⟨3, ![1, 8192, 2048]⟩ ⟨3, ![2, 8192, 2048]⟩ (Layout.meshBlock [2, 2, 4] ![[0], [], []] c) w

/-- An element of a device's argument is the element of the whole array in its half. -/
theorem argOf_apply (w : Whole) (c : Dev nD) (a : Fin 8192) (b : Fin 2048) (h : c.val / 8 < 2) :
    argOf w c (ValueIdx.ix3 0 a b) = w (ValueIdx.ix3 ⟨c.val / 8, h⟩ a b) := by
  refine congrArg w (Shape.idx3_ext ?_ ?_ ?_)
  · show Layout.meshLin [2, 2, 4] c.val [0] * 1 + 0 = c.val / 8
    rw [block_x]; omega
  · show 0 * 8192 + a.val = a.val; omega
  · show 0 * 2048 + b.val = b.val; omega

/-- Where an element of a device's result is in the whole result. -/
theorem out_idx (c : Dev nD) (v : Cert.ReferenceIdeal.S8192x2048.Idx → Elt Ideal .f32) (i : S8192x1024.Idx) :
    Layout.blockN ⟨2, ![8192, 1024]⟩ ⟨2, ![8192, 2048]⟩ (Layout.meshBlock [2, 2, 4] ![[], [0]] c) v (by decide) i
      = v (ValueIdx.ix2 (row (i 0).val) (col (1024 * (c.val / 8) + (i 1).val))) := by
  have hc := dev_lt c
  have h0 : (i 0).val < 8192 := (i 0).isLt
  have h1 : (i 1).val < 1024 := (i 1).isLt
  refine congrArg v (funext fun b => Fin.ext ?_)
  match b with
  | ⟨0, _⟩ => show 0 * 8192 + (i 0).val = (i 0).val % 8192; omega
  | ⟨1, _⟩ =>
    show Layout.meshLin [2, 2, 4] c.val [0] * 1024 + (i 1).val = (1024 * (c.val / 8) + (i 1).val) % 2048
    rw [block_x]; omega

/-- The two halves a device adds are the two elements the reference adds, in one order or the other. -/
theorem fin_total (w : Whole) (c : Dev nD) :
    (fin (argOf w) c : S8192x1024.Idx → Elt Ideal .f32)
      = Layout.blockN ⟨2, ![8192, 1024]⟩ ⟨2, ![8192, 2048]⟩ (Layout.meshBlock [2, 2, 4] ![[], [0]] c) (total w) := by
  funext i
  have hc := dev_lt c
  rw [out_idx, total_apply]
  generalize hr : row (i 0).val = r
  generalize hl : col (1024 * (c.val / 8) + (i 1).val) = l
  have ho : own (argOf w) c i = w (ValueIdx.ix3 ⟨c.val / 8, by omega⟩ r l) := by
    rw [own, hr, hl]; exact argOf_apply w c r l _
  have ht : oth (argOf w) c i = w (ValueIdx.ix3 ⟨1 - c.val / 8, by omega⟩ r l) := by
    have key : ∀ d : Dev nD, d.val / 8 = 1 - c.val / 8 → argOf w d (ValueIdx.ix3 0 r l) = w (ValueIdx.ix3 ⟨1 - c.val / 8, by omega⟩ r l) := by
      intro d hd
      rw [argOf_apply w d r l (by omega)]
      exact congrArg (fun q => w (ValueIdx.ix3 q r l)) (Fin.ext hd)
    rw [oth, hr, hl]
    split_ifs
    · exact key _ (px_x c)
    · exact key _ (by rw [px_x, py_x])
  show (own (argOf w) c i + oth (argOf w) c i : EReal) = w (ValueIdx.ix3 0 r l) + w (ValueIdx.ix3 1 r l)
  rw [ho, ht]
  have hx : c.val / 8 = 0 ∨ c.val / 8 = 1 := by omega
  rcases hx with hx | hx
  · simp only [hx]; rfl
  · simp only [hx]; exact add_comm _ _

end Cert.KernelIdeal.Own
end
-- ==== Proof.lean ====
/- The claims of the certificate, put together from the run of the kernel, the run of the reference and the value. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the printed kernel ends, with its argument as it was and every counter at zero. -/
theorem quiescent_kernel : Cert.quiescent_Kernel (hKernel := Cert.Kernel.Gen.facts) := fun m g _ =>
  (θ_run _ _ _).mono (fun _ h => ⟨fun c => (h.1 c).1, h.2⟩) (Cert.Kernel.Own.run_main (F := Bits) m g)

/-- The same of the kernel over exact numbers. -/
theorem quiescent_ideal : Cert.quiescent_KernelIdeal (hKernelIdeal := Cert.KernelIdeal.Gen.facts) := fun m g _ =>
  (θ_run _ _ _).mono (fun _ h => ⟨fun c => (h.1 c).1, h.2⟩) (Cert.KernelIdeal.Own.run_main (F := Ideal) m g)

/-- The same of the reference. -/
theorem quiescent_ref : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Over exact numbers every device ends with its block of the reference's sum. -/
theorem algebraic : Cert.algebraic_KernelIdeal_ReferenceIdeal (hKernelIdeal := Cert.KernelIdeal.Gen.facts)
    (hReferenceIdeal := Cert.ReferenceIdeal.Gen.facts) := fun m g m' g' _ hargs => by
  have hX : Cert.KernelIdeal.Own.X₀ (F := Ideal) m = Cert.KernelIdeal.Own.argOf (m' (((0 : Dev Cert.ReferenceIdeal.nD).tc : Thread _ _).loc Cert.ReferenceIdeal.main_arg0)) :=
    funext hargs
  refine ⟨Cert.KernelIdeal.Own.total (m' (((0 : Dev Cert.ReferenceIdeal.nD).tc : Thread _ _).loc Cert.ReferenceIdeal.main_arg0)), ?_, ?_⟩
  · refine (θ_run _ _ _).mono (fun _ h c => ⟨(h.1 c).2.trans ?_, (h.1 c).1⟩) (Cert.KernelIdeal.Own.run_main (F := Ideal) m g)
    rw [hX]
    exact Cert.KernelIdeal.Own.fin_total _ c
  · exact (θ_run _ _ _).mono (fun _ h => h 0) (Cert.ReferenceIdeal.Value.run (F := Ideal) m' g')

/-- Every claim of the certificate. -/
theorem claim : Cert.Claim :=
  ⟨Cert.Kernel.Gen.facts, Cert.KernelIdeal.Gen.facts, Cert.ReferenceIdeal.Gen.facts, quiescent_kernel, quiescent_ideal, quiescent_ref, trivial, algebraic⟩

end Cert.Proof

end
